-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_species_zero [hPre_species_zero : Cert.Pre_species_zero.Facts] (m : (ℓ : Loc Cert.KernelIdeal.nD Cert.KernelIdeal.τ Cert.KernelIdeal.sig) → Buf (Elt Ideal) ℓ) : Prop :=
  ∀ c : Dev Cert.KernelIdeal.nD,
    (Cert.Pre_species_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_species_zero [hPre_species_zero : Cert.Pre_species_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_species_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_species_zero [hKernelIdeal : Cert.KernelIdeal.Facts] [hPre_species_zero : Cert.Pre_species_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_species_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_species_zero [hReferenceIdeal : Cert.ReferenceIdeal.Facts] [hPre_species_zero : Cert.Pre_species_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_species_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_species_zero [hKernelIdeal : Cert.KernelIdeal.Facts] [hReferenceIdeal : Cert.ReferenceIdeal.Facts] [hPre_species_zero : Cert.Pre_species_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_species_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_species_zero : Cert.Pre_species_zero.Facts),
    quiescent_Kernel (hKernel := hKernel)
    ∧ quiescent_KernelIdeal (hKernelIdeal := hKernelIdeal)
    ∧ quiescent_KernelIdeal_pre_species_zero (hKernelIdeal := hKernelIdeal) (hPre_species_zero := hPre_species_zero)
    ∧ quiescent_ReferenceIdeal (hReferenceIdeal := hReferenceIdeal)
    ∧ quiescent_ReferenceIdeal_pre_species_zero (hReferenceIdeal := hReferenceIdeal) (hPre_species_zero := hPre_species_zero)
    ∧ preserves_Kernel_KernelIdeal
    ∧ algebraic_KernelIdeal_ReferenceIdeal_pre_species_zero (hKernelIdeal := hKernelIdeal) (hReferenceIdeal := hReferenceIdeal) (hPre_species_zero := hPre_species_zero)
-- ==== Pre_species_zero.lean ====
abbrev S16384x1024 : Shape := ⟨2, ![16384, 1024]⟩
abbrev S1026x32 : Shape := ⟨2, ![1026, 32]⟩
abbrev S1396x128 : Shape := ⟨2, ![1396, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S16384x12 : Shape := ⟨2, ![16384, 12]⟩
abbrev S_ : Shape := ⟨0, ![]⟩

class Facts : Prop where
  slices_S16384x1024_S16384x12_0_836 : S16384x1024.Slices ![0, 836] S16384x12
  bcast_S_S16384x12 : S_.BroadcastsInDim S16384x12 (![] : Fin 0 → Fin S16384x12.rank)
  reducesTo_S16384x12_S_d0_1 : S16384x12.ReducesTo [0, 1] S_
  h_S_ : 0 < S_.numel

variable [Facts]

def fn {F : FTy → Type} [FloatOps F] (main_arg0 : FVec F S16384x1024 .f32) (main_arg1 : FVec F S1026x32 .f32) (main_arg2 : FVec F S1396x128 .f32) (main_arg3 : FVec F S128 .f32) (main_arg4 : FVec F S128x256 .f32) (main_arg5 : FVec F S256 .f32) (main_arg6 : FVec F S256x128 .f32) (main_arg7 : FVec F S128 .f32) (main_arg8 : FVec F S128x1 .f32) (main_arg9 : FVec F S1 .f32) : IVec S_ 1 :=
  let main_v0 : FVec F S16384x12 .f32 := (extractStridedSlice S16384x12 ![0, 836] · slices_S16384x1024_S16384x12_0_836) main_arg0
  let main_cst : FVec F S_ .f32 := constant S_ .f32 0xBF800000#32
  let main_v1 : FVec F S16384x12 .f32 := broadcastInDim S16384x12 ![] bcast_S_S16384x12 main_cst
  let main_v2 : IVec S16384x12 1 := cmpf .ogt main_v0 main_v1
  let main_cst_0 : FVec F S_ .f32 := constant S_ .f32 0x3F800000#32
  let main_v3 : FVec F S16384x12 .f32 := broadcastInDim S16384x12 ![] bcast_S_S16384x12 main_cst_0
  let main_v4 : IVec S16384x12 1 := cmpf .olt main_v0 main_v3
  let main_v5 : IVec S16384x12 1 := andi main_v2 main_v4
  let main_c : IVec S_ 1 := constantI S_ 1 1#1
  let main_v6 : IVec S_ 1 := (fun x v => Host.reduce IntOp.andi x v reducesTo_S16384x12_S_d0_1 h_S_) main_v5 main_c
  main_v6
-- ==== Kernel.lean ====
abbrev S16384x1024 : Shape := ⟨2, ![16384, 1024]⟩
abbrev S1026x32 : Shape := ⟨2, ![1026, 32]⟩
abbrev S1396x128 : Shape := ⟨2, ![1396, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S16384 : Shape := ⟨1, ![16384]⟩
abbrev S2048 : Shape := ⟨1, ![2048]⟩
abbrev S4x2048x1024 : Shape := ⟨3, ![4, 2048, 1024]⟩
abbrev S1024x128 : Shape := ⟨2, ![1024, 128]⟩
abbrev S1x128 : Shape := ⟨2, ![1, 128]⟩
abbrev S4x2 : Shape := ⟨2, ![4, 2]⟩
abbrev S1x1 : Shape := ⟨2, ![1, 1]⟩
abbrev S_ : Shape := ⟨0, ![]⟩
abbrev S1x1024x1024 : Shape := ⟨3, ![1, 1024, 1024]⟩
abbrev S1024x1024 : Shape := ⟨2, ![1024, 1024]⟩
abbrev S836x128 : Shape := ⟨2, ![836, 128]⟩
abbrev S12x128 : Shape := ⟨2, ![12, 128]⟩
abbrev S176x128 : Shape := ⟨2, ![176, 128]⟩
abbrev S1x32 : Shape := ⟨2, ![1, 32]⟩
abbrev S1x384 : Shape := ⟨2, ![1, 384]⟩
abbrev S384x128 : Shape := ⟨2, ![384, 128]⟩
abbrev S1x2048x1024 : Shape := ⟨3, ![1, 2048, 1024]⟩
abbrev S2048x1024 : Shape := ⟨2, ![2048, 1024]⟩
abbrev S2048x128 : Shape := ⟨2, ![2048, 128]⟩
abbrev S2048x256 : Shape := ⟨2, ![2048, 256]⟩
abbrev S1x256 : Shape := ⟨2, ![1, 256]⟩
abbrev S2048x1 : Shape := ⟨2, ![2048, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1026x32, .f32⟩
  | .hbm, ⟨2, _⟩ => ⟨S1396x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S16384, .f32⟩
  | .local _ .vmem, ⟨0, _⟩ => ⟨S1026x32, .f32⟩
  | .local _ .vmem, ⟨1, _⟩ => ⟨S1396x128, .f32⟩
  | .local _ .vmem, ⟨2, _⟩ => ⟨S128, .f32⟩
  | .local _ .vmem, ⟨3, _⟩ => ⟨S128x256, .f32⟩
  | .local _ .vmem, ⟨4, _⟩ => ⟨S256, .f32⟩
  | .local _ .vmem, ⟨5, _⟩ => ⟨S256x128, .f32⟩
  | .local _ .vmem, ⟨6, _⟩ => ⟨S128, .f32⟩
  | .local _ .vmem, ⟨7, _⟩ => ⟨S128x1, .f32⟩
  | .local _ .vmem, ⟨8, _⟩ => ⟨S1, .f32⟩
  | .local _ .vmem, ⟨9, _⟩ => ⟨S2048, .f32⟩
  | .local _ .vmem, ⟨10, _⟩ => ⟨S2048, .f32⟩
  | .local _ .vmem, ⟨11, _⟩ => ⟨S4x2048x1024, .f32⟩
  | .local _ .vmem, ⟨12, _⟩ => ⟨S1024x128, .f32⟩
  | .local _ .vmem, ⟨13, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_35 : BitVec 32) : Fin 2 → Nat :=
  let c4_i32_36 : BitVec 32 := 4#32
  let v59 : BitVec 32 := Scalar.remsi c0_i32_35 c4_i32_36
  let c0_i32_40 : BitVec 32 := 0#32
  ![v59.toNat, 0]
def k0_off2 (c0_i32_35 : BitVec 32) : Fin 3 → Nat :=
  let c4_i32_36 : BitVec 32 := 4#32
  let v59 : BitVec 32 := Scalar.remsi c0_i32_35 c4_i32_36
  let c0_i32_41 : BitVec 32 := 0#32
  let c0_i32_42 : BitVec 32 := 0#32
  ![v59.toNat, 0, 0]
def k0_off3 (c0_i32_37 : BitVec 32) (c0_i32_39 : BitVec 32) : Fin 2 → Nat :=
  let c2048_i32_38 : BitVec 32 := 2048#32
  let v60 : BitVec 32 := Scalar.muli c0_i32_37 c2048_i32_38
  let v61 : BitVec 32 := Scalar.addi v60 c0_i32_39
  let c0_i32_43 : BitVec 32 := 0#32
  ![v61.toNat, 0]
def k0_off4 (c0_i32_35 : BitVec 32) : Fin 2 → Nat :=
  let c4_i32_36 : BitVec 32 := 4#32
  let v59 : BitVec 32 := Scalar.remsi c0_i32_35 c4_i32_36
  let c1_i32_47 : BitVec 32 := 1#32
  ![v59.toNat, 1]
def k0_off5 (c0_i32_35 : BitVec 32) : Fin 3 → Nat :=
  let c4_i32_36 : BitVec 32 := 4#32
  let v59 : BitVec 32 := Scalar.remsi c0_i32_35 c4_i32_36
  let c1024_i32_48 : BitVec 32 := 1024#32
  let c0_i32_49 : BitVec 32 := 0#32
  ![v59.toNat, 1024, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c4_i32 : BitVec 32 := 4#32
  let v4 : BitVec 32 := Scalar.addi arg0 c4_i32
  let c1_i32 : BitVec 32 := 1#32
  let v5 : BitVec 32 := Scalar.subi v4 c1_i32
  let c8_i32 : BitVec 32 := 8#32
  let v6 : BitVec 1 := Scalar.cmpi .slt v5 c8_i32
  let v7 : BitVec 1 := Scalar.andi v3 v6
  let v8 : BitVec 32 := Scalar.extui v7
  let c0_i32_2 : BitVec 32 := 0#32
  let v9 : BitVec 1 := Scalar.cmpi .ne v8 c0_i32_2
  v9

def k0_off6 (i : grid0.Coords) : Fin 2 → Nat :=
  let arg0 : BitVec 32 := BitVec.ofNat 32 (i 0).val
  let c4_i32_35 : BitVec 32 := 4#32
  let v59 : BitVec 32 := Scalar.addi arg0 c4_i32_35
  let c1_i32_36 : BitVec 32 := 1#32
  let v60 : BitVec 32 := Scalar.subi v59 c1_i32_36
  let c4_i32_37 : BitVec 32 := 4#32
  let v61 : BitVec 32 := Scalar.remsi v60 c4_i32_37
  let c0_i32_40 : BitVec 32 := 0#32
  ![v61.toNat, 0]
def k0_off7 (i : grid0.Coords) : Fin 3 → Nat :=
  let arg0 : BitVec 32 := BitVec.ofNat 32 (i 0).val
  let c4_i32_35 : BitVec 32 := 4#32
  let v59 : BitVec 32 := Scalar.addi arg0 c4_i32_35
  let c1_i32_36 : BitVec 32 := 1#32
  let v60 : BitVec 32 := Scalar.subi v59 c1_i32_36
  let c4_i32_37 : BitVec 32 := 4#32
  let v61 : BitVec 32 := Scalar.remsi v60 c4_i32_37
  let c0_i32_41 : BitVec 32 := 0#32
  let c0_i32_42 : BitVec 32 := 0#32
  ![v61.toNat, 0, 0]
def k0_off8 (i : grid0.Coords) (c0_i32_39 : BitVec 32) : Fin 2 → Nat :=
  let arg0 : BitVec 32 := BitVec.ofNat 32 (i 0).val
  let c4_i32_35 : BitVec 32 := 4#32
  let v59 : BitVec 32 := Scalar.addi arg0 c4_i32_35
  let c1_i32_36 : BitVec 32 := 1#32
  let v60 : BitVec 32 := Scalar.subi v59 c1_i32_36
  let c2048_i32_38 : BitVec 32 := 2048#32
  let v62 : BitVec 32 := Scalar.muli v60 c2048_i32_38
  let v63 : BitVec 32 := Scalar.addi v62 c0_i32_39
  let c0_i32_43 : BitVec 32 := 0#32
  ![v63.toNat, 0]
def k0_off9 (i : grid0.Coords) : Fin 2 → Nat :=
  let arg0 : BitVec 32 := BitVec.ofNat 32 (i 0).val
  let c4_i32_35 : BitVec 32 := 4#32
  let v59 : BitVec 32 := Scalar.addi arg0 c4_i32_35
  let c1_i32_36 : BitVec 32 := 1#32
  let v60 : BitVec 32 := Scalar.subi v59 c1_i32_36
  let c4_i32_37 : BitVec 32 := 4#32
  let v61 : BitVec 32 := Scalar.remsi v60 c4_i32_37
  let c1_i32_46 : BitVec 32 := 1#32
  ![v61.toNat, 1]
def k0_off10 (i : grid0.Coords) : Fin 3 → Nat :=
  let arg0 : BitVec 32 := BitVec.ofNat 32 (i 0).val
  let c4_i32_35 : BitVec 32 := 4#32
  let v59 : BitVec 32 := Scalar.addi arg0 c4_i32_35
  let c1_i32_36 : BitVec 32 := 1#32
  let v60 : BitVec 32 := Scalar.subi v59 c1_i32_36
  let c4_i32_37 : BitVec 32 := 4#32
  let v61 : BitVec 32 := Scalar.remsi v60 c4_i32_37
  let c1024_i32_47 : BitVec 32 := 1024#32
  let c0_i32_48 : BitVec 32 := 0#32
  ![v61.toNat, 1024, 0]
def k0_off11 (i : grid0.Coords) : Fin 2 → Nat :=
  let arg0 : BitVec 32 := BitVec.ofNat 32 (i 0).val
  let c4_i32_3 : BitVec 32 := 4#32
  let v10 : BitVec 32 := Scalar.remsi arg0 c4_i32_3
  let c0_i32_5 : BitVec 32 := 0#32
  ![v10.toNat, 0]
def k0_off12 (i : grid0.Coords) : Fin 3 → Nat :=
  let arg0 : BitVec 32 := BitVec.ofNat 32 (i 0).val
  let c4_i32_3 : BitVec 32 := 4#32
  let v10 : BitVec 32 := Scalar.remsi arg0 c4_i32_3
  let c0_i32_6 : BitVec 32 := 0#32
  let c0_i32_7 : BitVec 32 := 0#32
  ![v10.toNat, 0, 0]
def k0_off13 (i : grid0.Coords) (c0_i32_4 : BitVec 32) : Fin 2 → Nat :=
  let arg0 : BitVec 32 := BitVec.ofNat 32 (i 0).val
  let c2048_i32 : BitVec 32 := 2048#32
  let v11 : BitVec 32 := Scalar.muli arg0 c2048_i32
  let v12 : BitVec 32 := Scalar.addi v11 c0_i32_4
  let c0_i32_8 : BitVec 32 := 0#32
  ![v12.toNat, 0]
def k0_off14 (i : grid0.Coords) : Fin 2 → Nat :=
  let arg0 : BitVec 32 := BitVec.ofNat 32 (i 0).val
  let c4_i32_3 : BitVec 32 := 4#32
  let v10 : BitVec 32 := Scalar.remsi arg0 c4_i32_3
  let c1_i32_10 : BitVec 32 := 1#32
  ![v10.toNat, 1]
def k0_off15 (i : grid0.Coords) : Fin 3 → Nat :=
  let arg0 : BitVec 32 := BitVec.ofNat 32 (i 0).val
  let c4_i32_3 : BitVec 32 := 4#32
  let v10 : BitVec 32 := Scalar.remsi arg0 c4_i32_3
  let c1024_i32_11 : BitVec 32 := 1024#32
  let c0_i32_12 : BitVec 32 := 0#32
  ![v10.toNat, 1024, 0]
def k0_off16 (i : grid0.Coords) : Fin 3 → Nat :=
  let arg0 : BitVec 32 := BitVec.ofNat 32 (i 0).val
  let c4_i32_3 : BitVec 32 := 4#32
  let v10 : BitVec 32 := Scalar.remsi arg0 c4_i32_3
  let v25 : Index := Scalar.indexCast v10
  let c0 : Index := 0#32
  let c0_14 : Index := 0#32
  ![v25.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S1026x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1396x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x1024 : Shape := ⟨2, ![16384, 1024]⟩
abbrev S1026x32 : Shape := ⟨2, ![1026, 32]⟩
abbrev S1396x128 : Shape := ⟨2, ![1396, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S16384x12 : Shape := ⟨2, ![16384, 12]⟩
abbrev S_ : Shape := ⟨0, ![]⟩
abbrev S16384x12x1 : Shape := ⟨3, ![16384, 12, 1]⟩
abbrev S1x1x1 : Shape := ⟨3, ![1, 1, 1]⟩
abbrev S16384x12x32 : Shape := ⟨3, ![16384, 12, 32]⟩
abbrev S16384x384 : Shape := ⟨2, ![16384, 384]⟩
abbrev S16384x836 : Shape := ⟨2, ![16384, 836]⟩
abbrev S16384x176 : Shape := ⟨2, ![16384, 176]⟩
abbrev S16384x1012 : Shape := ⟨2, ![16384, 1012]⟩
abbrev S16384x1396 : Shape := ⟨2, ![16384, 1396]⟩
abbrev S16384x128 : Shape := ⟨2, ![16384, 128]⟩
abbrev S1x128 : Shape := ⟨2, ![1, 128]⟩
abbrev S16384x256 : Shape := ⟨2, ![16384, 256]⟩
abbrev S1x256 : Shape := ⟨2, ![1, 256]⟩
abbrev S16384x1 : Shape := ⟨2, ![16384, 1]⟩
abbrev S1x1 : Shape := ⟨2, ![1, 1]⟩
abbrev S16384 : Shape := ⟨1, ![16384]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1026x32, .f32⟩
  | .hbm, ⟨2, _⟩ => ⟨S1396x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S16384x12, .f32⟩
  | .hbm, ⟨11, _⟩ => ⟨S16384x12, .i32⟩
  | .hbm, ⟨12, _⟩ => ⟨S_, .i32⟩
  | .hbm, ⟨13, _⟩ => ⟨S16384x12, .i32⟩
  | .hbm, ⟨14, _⟩ => ⟨S16384x12, .i1⟩
  | .hbm, ⟨15, _⟩ => ⟨S_, .i32⟩
  | .hbm, ⟨16, _⟩ => ⟨S16384x12, .i32⟩
  | .hbm, ⟨17, _⟩ => ⟨S16384x12, .i32⟩
  | .hbm, ⟨18, _⟩ => ⟨S16384x12, .i32⟩
  | .hbm, ⟨19, _⟩ => ⟨S16384x12x1, .i32⟩
  | .hbm, ⟨20, _⟩ => ⟨S1, .i32⟩
  | .hbm, ⟨21, _⟩ => ⟨S_, .i32⟩
  | .hbm, ⟨22, _⟩ => ⟨S16384x12x1, .i32⟩
  | .hbm, ⟨23, _⟩ => ⟨S16384x12x1, .i1⟩
  | .hbm, ⟨24, _⟩ => ⟨S1x1x1, .i32⟩
  | .hbm, ⟨25, _⟩ => ⟨S16384x12x1, .i32⟩
  | .hbm, ⟨26, _⟩ => ⟨S16384x12x1, .i1⟩
  | .hbm, ⟨27, _⟩ => ⟨S16384x12x1, .i1⟩
  | .hbm, ⟨28, _⟩ => ⟨S_, .i1⟩
  | .hbm, ⟨29, _⟩ => ⟨S16384x12, .i1⟩
  | .hbm, ⟨30, _⟩ => ⟨S16384x12x32, .f32⟩
  | .hbm, ⟨31, _⟩ => ⟨S16384x12x32, .i1⟩
  | .hbm, ⟨32, _⟩ => ⟨S_, .f32⟩
  | .hbm, ⟨33, _⟩ => ⟨S16384x12x32, .f32⟩
  | .hbm, ⟨34, _⟩ => ⟨S16384x12x32, .f32⟩
  | .hbm, ⟨35, _⟩ => ⟨S16384x384, .f32⟩
  | .hbm, ⟨36, _⟩ => ⟨S16384x836, .f32⟩
  | .hbm, ⟨37, _⟩ => ⟨S16384x176, .f32⟩
  | .hbm, ⟨38, _⟩ => ⟨S16384x1012, .f32⟩
  | .hbm, ⟨39, _⟩ => ⟨S16384x1396, .f32⟩
  | .hbm, ⟨40, _⟩ => ⟨S16384x128, .f32⟩
  | .hbm, ⟨41, _⟩ => ⟨S1x128, .f32⟩
  | .hbm, ⟨42, _⟩ => ⟨S16384x128, .f32⟩
  | .hbm, ⟨43, _⟩ => ⟨S16384x128, .f32⟩
  | .hbm, ⟨44, _⟩ => ⟨S_, .f32⟩
  | .hbm, ⟨45, _⟩ => ⟨S16384x128, .f32⟩
  | .hbm, ⟨46, _⟩ => ⟨S16384x128, .f32⟩
  | .hbm, ⟨47, _⟩ => ⟨S16384x256, .f32⟩
  | .hbm, ⟨48, _⟩ => ⟨S1x256, .f32⟩
  | .hbm, ⟨49, _⟩ => ⟨S16384x256, .f32⟩
  | .hbm, ⟨50, _⟩ => ⟨S16384x256, .f32⟩
  | .hbm, ⟨51, _⟩ => ⟨S_, .f32⟩
  | .hbm, ⟨52, _⟩ => ⟨S16384x256, .f32⟩
  | .hbm, ⟨53, _⟩ => ⟨S16384x256, .f32⟩
  | .hbm, ⟨54, _⟩ => ⟨S16384x128, .f32⟩
  | .hbm, ⟨55, _⟩ => ⟨S1x128, .f32⟩
  | .hbm, ⟨56, _⟩ => ⟨S16384x128, .f32⟩
  | .hbm, ⟨57, _⟩ => ⟨S16384x128, .f32⟩
  | .hbm, ⟨58, _⟩ => ⟨S_, .f32⟩
  | .hbm, ⟨59, _⟩ => ⟨S16384x128, .f32⟩
  | .hbm, ⟨60, _⟩ => ⟨S16384x128, .f32⟩
  | .hbm, ⟨61, _⟩ => ⟨S16384x1, .f32⟩
  | .hbm, ⟨62, _⟩ => ⟨S1x1, .f32⟩
  | .hbm, ⟨63, _⟩ => ⟨S16384x1, .f32⟩
  | .hbm, ⟨64, _⟩ => ⟨S16384x1, .f32⟩
  | .hbm, ⟨65, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_call1_cst : Ref sig .tc := ⟨.hbm, 44, rfl⟩
abbrev main_call1_v0 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_call2_cst : Ref sig .tc := ⟨.hbm, 51, rfl⟩
abbrev main_call2_v0 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩

abbrev nD : Nat := 1
abbrev τ : Topo := Topo.v7x

variable {F : FTy → Type} [FloatOps F]
-- ==== Proof.KernelIdeal.Ring.lean ====
/- The ring of the kernel: `x` streamed through the four slots of its scratch, three blocks ahead, each block in two
   transfers of 1024 rows on a semaphore of its own. This module states what a slot, a transfer in flight and the
   operand's read shares are, how the launch's resources become the ring and come back, and what a slot holds once
   both halves of a block have landed in it (`slotVal`). -/
module

public import proofs.«01_k».proof.Proof.Gen.KernelIdeal.Frame
public import proofs.«01_k».proof.Proof.Gen.KernelIdeal.Skeleton
public import Idealize.ShloMosaic.Lib.Ring.WriteBehind
public import Idealize.ShloMosaic.Lib.Ring.AtN
public import Idealize.ShloMosaic.Lib.Pipeline.Value
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branches over the grid -/

/-- The body's first branch: the grid's first point, which starts the ring and folds the weights. -/
abbrev first (i : grid0.Coords) : Prop := k0_cond1 i = 1#1
/-- The body's second branch: a later point that still has a block to start. -/
abbrev more (i : grid0.Coords) : Prop := k0_cond2 i = 1#1

theorem first_iff : ∀ t : Fin grid0.N, first (grid0.coords t) ↔ t.val = 0 := by decide +kernel
theorem more_iff : ∀ t : Fin grid0.N, more (grid0.coords t) ↔ (1 ≤ t.val ∧ t.val ≤ 4) := by decide +kernel

instance : NeZero grid0.N := ⟨by rw [N_0]; decide⟩

/-! ## The buffers the body moves itself -/

/-- The ring's scratch, the folded first-layer weights, the folded first-layer bias, and the operand left in HBM. -/
abbrev xbuf : Memref sig .tc .vmem S4x2048x1024 .f32 := Memref.whole cc0_scratch0
abbrev wbuf : Memref sig .tc .vmem S1024x128 .f32 := Memref.whole cc0_scratch1
abbrev cbuf : Memref sig .tc .vmem S1x128 .f32 := Memref.whole cc0_scratch2
abbrev xhbm : Memref sig .tc .hbm S16384x1024 .f32 := Memref.whole main_arg0

/-- The contents type of a memref's buffer on core `c`. -/
abbrev HB (c : Dev nD) {sp : Space} {S : Shape} {e : EltTy} (M : Memref sig .tc sp S e) : Type := Buf (Elt F) (M.view.loc (c : Thread nD τ))
/-- A memref's buffer on core `c` held whole at `f`. -/
abbrev hbPt (c : Dev nD) {sp : Space} {S : Shape} {e : EltTy} (M : Memref sig .tc sp S e) (f : HB (F := F) c M) : sProp 𝕄 :=
  M.view.loc (c : Thread nD τ) ↦{fullShare} f

/-! ## Slots, blocks and cells -/

theorem inb_slot (s : Fin 4) : ∀ a, (![s.val, 0, 0] : Fin 3 → Nat) a + S1x2048x1024.size a ≤ S4x2048x1024.size a := by
  have := s.isLt; intro a; fin_cases a <;> simp <;> omega
theorem inb_win (s : Fin 4) (w : Fin 2) : ∀ a, (![s.val, 1024 * w.val, 0] : Fin 3 → Nat) a + S1x1024x1024.size a ≤ S4x2048x1024.size a := by
  have := s.isLt; have := w.isLt; intro a; fin_cases a <;> simp <;> omega
theorem inb_src (b : Fin 8) (w : Fin 2) : ∀ a, (![2048 * b.val + 1024 * w.val, 0] : Fin 2 → Nat) a + S1024x1024.size a ≤ S16384x1024.size a := by
  have := b.isLt; have := w.isLt; intro a; fin_cases a <;> simp <;> omega
theorem inb_cell (s : Fin 4) (w : Fin 2) : ∀ a, (![s.val, w.val] : Fin 2 → Nat) a + S1x1.size a ≤ S4x2.size a := by
  have := s.isLt; have := w.isLt; intro a; fin_cases a <;> simp <;> omega

/-- Slot `s` of the ring, whole. -/
def rslot (s : Fin 4) : Memref sig .tc .vmem S1x2048x1024 .f32 :=
  xbuf.slice (Rect.unit (s := S4x2048x1024) ![s.val, 0, 0] S1x2048x1024.size (inb_slot s)) (fun _ => rfl)
/-- Half `w` of slot `s`, as a transfer names its destination. -/
def rwin (s : Fin 4) (w : Fin 2) : Memref sig .tc .vmem S1024x1024 .f32 :=
  (xbuf.slice (Rect.unit (s := S4x2048x1024) ![s.val, 1024 * w.val, 0] S1x1024x1024.size (inb_win s w)) (fun _ => rfl)).squeeze S1024x1024 squeezes_S1x1024x1024_S1024x1024
/-- Half `w` of block `b` of the operand, as a transfer names its source. -/
def srcB (b : Fin 8) (w : Fin 2) : Memref sig .tc .hbm S1024x1024 .f32 :=
  xhbm.slice (Rect.unit (s := S16384x1024) ![2048 * b.val + 1024 * w.val, 0] S1024x1024.size (inb_src b w)) (fun _ => rfl)
/-- The semaphore of half `w` of slot `s`. -/
def cellA (s : Fin 4) (w : Fin 2) : DmaSems sig S_ :=
  (cc0_scratch3.slice (Rect.unit (s := S4x2) ![s.val, w.val] S1x1.size (inb_cell s w))).squeeze S_ squeezes_S1x1_S_
abbrev cellR (s : Fin 4) (w : Fin 2) : SemLoc sig := SemLoc.dma (cellA s w).sem

/-- The eight semaphores of the ring, by their numbers. -/
abbrev osem : Fin 8 → SemLoc sig := fun j =>
  (![SemLoc.dma 11, SemLoc.dma 12, SemLoc.dma 13, SemLoc.dma 14, SemLoc.dma 15, SemLoc.dma 16, SemLoc.dma 17, SemLoc.dma 18] : Fin 8 → SemLoc sig) j
theorem ownSemFacts : Pipeline.OwnSemFacts spec0 osem := by decide
theorem cellR_eq : ∀ (s : Fin 4) (w : Fin 2), cellR s w = osem ⟨2 * s.val + w.val, by have := s.isLt; have := w.isLt; omega⟩ := by decide

section Families
variable (c : Dev nD) (W : HB (F := F) c xhbm)

/-- What is left of the full share after `n` copies were lent. -/
def spine : ℕ → PosShare TreeShare
  | 0 => fullShare
  | n + 1 => (spine n).right
/-- The share of the operand lent to the transfers of half `w` of slot `s`: one of eight. -/
def qs (s : Fin 4) (w : Fin 2) : PosShare TreeShare := if 2 * s.val + w.val = 7 then spine 7 else (spine (2 * s.val + w.val)).left

/-- Slot `s` held at `f`; half `w` of it; its two semaphores at zero. -/
abbrev slotP (s : Fin 4) (f : HB (F := F) c xbuf) : sProp 𝕄 := (rslot s).view.loc (c : Thread nD τ) ↦[(rslot s).view.set]{fullShare} f
abbrev winP (s : Fin 4) (w : Fin 2) (f : HB (F := F) c xbuf) : sProp 𝕄 := (rwin s w).view.loc (c : Thread nD τ) ↦[(rwin s w).view.set]{fullShare} f
abbrev cellP (s : Fin 4) : sProp 𝕄 := iprop(semVal ((c : Thread nD τ), cellR s 0) 0 ∗ semVal ((c : Thread nD τ), cellR s 1) 0)
/-- The elements of block `b`'s half `w` in the copy lent to that half of slot `s`, the rest of that copy, and the copy whole. -/
abbrev srcP (s : Fin 4) (w : Fin 2) (b : Fin 8) : sProp 𝕄 := (srcB b w).view.loc (c : Thread nD τ) ↦[(srcB b w).view.set]{qs s w} W
def restP (s : Fin 4) (w : Fin 2) (b : Fin 8) : sProp 𝕄 := ((c : Thread nD τ).loc main_arg0) ↦[Finset.univ \ (srcB b w).view.set]{qs s w} W
abbrev wholeP (s : Fin 4) (w : Fin 2) : sProp 𝕄 := ((c : Thread nD τ).loc main_arg0) ↦[Finset.univ]{qs s w} W
/-- The scratch once half `w` of block `b` landed in that half of slot `s`, over `f`; the transfer that brings it, in flight. -/
abbrev landed (s : Fin 4) (w : Fin 2) (b : Fin 8) (f : HB (F := F) c xbuf) : HB (F := F) c xbuf :=
  (rwin s w).view.writes (Elt F) f [⟨Rect.whole S1024x1024, ReadAs.same.apply ((srcB b w).view.read (Elt F) W)⟩]
abbrev flightP (s : Fin 4) (w : Fin 2) (b : Fin 8) (f : HB (F := F) c xbuf) : sProp 𝕄 :=
  Transfers.Flight countersEmb (c : Thread nD τ) (cellR s w) default ((rwin s w).view.amount (cellR s w))
    iprop(winP c s w (landed c W s w b f) ∗ srcP c W s w b)

/-- The ring's families: an idle slot with its two copies of the operand, and a block in flight. -/
abbrev slotW (s : Fin 4) (f : HB (F := F) c xbuf) : sProp 𝕄 := iprop(slotP c s f ∗ wholeP c W s 0 ∗ wholeP c W s 1)
abbrev flightW (s : Fin 4) (b : Fin 8) (f : HB (F := F) c xbuf) : sProp 𝕄 :=
  iprop((flightP c W s 0 b f ∗ restP c W s 0 b) ∗ flightP c W s 1 b f ∗ restP c W s 1 b)
abbrev noHome (b : Fin 8) : sProp 𝕄 := iprop(emp)
/-- The ring before point `k`: all slots idle before the first; later, blocks `k` to `k + 2` in flight and one slot idle. -/
def ringAt (k : ℕ) : sProp 𝕄 :=
  if k = 0 then Ring.At₀ (cellP c) (slotW c W) noHome
  else Ring.At 3 (cellP c) (slotW c W) noHome (flightW c W) k

/-! ## A slot and its halves -/

abbrev slotSet (s : Fin 4) : Finset S4x2048x1024.Idx := (Rect.unit (s := S4x2048x1024) ![s.val, 0, 0] S1x2048x1024.size (inb_slot s)).set
abbrev winSet (s : Fin 4) (w : Fin 2) : Finset S4x2048x1024.Idx := (Rect.unit (s := S4x2048x1024) ![s.val, 1024 * w.val, 0] S1x1024x1024.size (inb_win s w)).set

theorem rslot_set (s : Fin 4) : (rslot s).view.set = slotSet s := by
  unfold rslot; exact View.set_slice_whole _ _
theorem rwin_set (s : Fin 4) (w : Fin 2) : (rwin s w).view.set = winSet s w := by
  simp only [rwin, Memref.view_squeeze, View.set_reshape]; exact View.set_slice_whole _ _

omit [FloatOps F] in
theorem slotP_eq (s : Fin 4) (f) : slotP (F := F) c s f = (((c : Thread nD τ).loc cc0_scratch0) ↦[slotSet s]{fullShare} f : sProp 𝕄) := by
  unfold slotP; rw [rslot_set]; rfl
omit [FloatOps F] in
theorem winP_eq (s : Fin 4) (w : Fin 2) (f) : winP (F := F) c s w f = (((c : Thread nD τ).loc cc0_scratch0) ↦[winSet s w]{fullShare} f : sProp 𝕄) := by
  unfold winP; rw [rwin_set]; rfl

theorem slotSet_halves (s : Fin 4) : slotSet s = winSet s 0 ∪ winSet s 1 := by
  ext i
  have h1 : (i 1 : ℕ) < 2048 := (i 1).isLt
  rw [Finset.mem_union, Rect.mem_set_unit, Rect.mem_set_unit, Rect.mem_set_unit]
  simp only [Fin.forall_fin_succ]
  simp
  omega
theorem halves_disjoint (s : Fin 4) : Disjoint (winSet s 0) (winSet s 1) :=
  Rect.unit_disjoint (1 : Fin 3) (by simp)

omit [FloatOps F] in
/-- A slot held at `f` is its two halves held at `f`. -/
theorem slot_halves (s : Fin 4) (f) : slotP (F := F) c s f ⊣⊢ iprop(winP c s 0 f ∗ winP c s 1 f) := by
  rw [slotP_eq, winP_eq, winP_eq, slotSet_halves]; exact pointsTo_union (halves_disjoint s)

/-- What a slot holds once block `b` has landed in it: row `r` of the slot is row `2048 b + r` of the operand. -/
def slotVal (b : Fin 8) : HB (F := F) c xbuf := fun j : S4x2048x1024.Idx =>
  W (ValueIdx.ix2 ⟨2048 * b.val + (j 1).val, by have := b.isLt; have h : (j 1).val < 2048 := (j 1).isLt; omega⟩ (j 2))

omit [FloatOps F] in
theorem read_slotVal (s : Fin 4) (w : Fin 2) (b : Fin 8) :
    (rwin s w).view.read (Elt F) (slotVal c W b) = (srcB b w).view.read (Elt F) W := by
  funext i
  unfold rwin
  rw [Memref.read_squeeze_slice _ _ _ _ (show S1x1024x1024.ShapeCasts S1024x1024 by decide)]
  refine (shapeCast_dropUnit_apply _ _ _ _).trans ?_
  show W _ = W _
  congr 1
  funext a
  apply Fin.ext
  fin_cases a
  · show 2048 * b.val + (1024 * w.val + 1 * (i 0).val) = 2048 * b.val + 1024 * w.val + 1 * (i 0).val
    omega
  · rfl

/-- Contents a view reads alike agree on every element under the view. -/
theorem eq_of_read {κ : Kind} {sp : Space} {s : Shape} {e : EltTy} {Val : EltTy → Type} (v : View sig κ sp s e) (f g : v.ty.Contents Val)
    (h : v.read Val f = v.read Val g) : ∀ j ∈ v.set, f j = g j := by
  intro j hj
  obtain ⟨i, -, rfl⟩ := Finset.mem_map.mp hj
  have hi := congrFun h i
  rw [View.read_apply, View.read_apply] at hi
  exact (cast_inj _).mp hi

omit [FloatOps F] in
/-- A half as its transfer left it is that half of `slotVal`, whatever the transfer wrote over. -/
theorem win_landed (s : Fin 4) (w : Fin 2) (b : Fin 8) (f) : winP (F := F) c s w (landed c W s w b f) = winP c s w (slotVal c W b) := by
  exact pointsTo_congr (eq_of_read (rwin s w).view _ _
    ((View.read_writes_whole (rwin s w).view f ((srcB b w).view.read (Elt F) W)).trans (read_slotVal c W s w b).symm))

omit [FloatOps F] in
/-- The two halves as their transfers left them are the slot at `slotVal`. -/
theorem slot_landed (s : Fin 4) (b : Fin 8) (f g) :
    iprop(winP (F := F) c s 0 (landed c W s 0 b f) ∗ winP c s 1 (landed c W s 1 b g)) ⊢ slotP c s (slotVal c W b) := by
  rw [win_landed, win_landed]; exact (slot_halves c s _).2

/-! ## The operand by shares -/

omit [FloatOps F] in
/-- A copy of the operand is block `b`'s half `w` and the rest. -/
theorem src_split (s : Fin 4) (w : Fin 2) (b : Fin 8) : wholeP (F := F) c W s w ⊣⊢ iprop(srcP c W s w b ∗ restP c W s w b) := by
  unfold restP; exact pointsTo_split_subset (Finset.subset_univ _)
end Families

end Cert.KernelIdeal.Hand

end
-- ==== Proof.KernelIdeal.RingEnds.lean ====
/- What the launch hands the ring and takes back: the scratch whole is the four slots, the operand whole is its eight
   copies, and the eight semaphores at zero are the slots' pairs. -/
module

public import proofs.«01_k».proof.Proof.KernelIdeal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The scratch as its slots -/

theorem slots_disjoint (s s' : Fin 4) (h : s ≠ s') : Disjoint (slotSet s) (slotSet s') :=
  Ring.lead_disjoint (s := S4x2048x1024) (0 : Fin 3) 1 (fun s : Fin 4 => (![s.val, 0, 0] : Fin 3 → Nat)) S1x2048x1024.size inb_slot (fun s => by simp) rfl s s' h
theorem slots_cover : Finset.univ.biUnion slotSet = Finset.univ :=
  Ring.lead_cover (s := S4x2048x1024) (0 : Fin 3) 1 (fun s : Fin 4 => (![s.val, 0, 0] : Fin 3 → Nat)) S1x2048x1024.size inb_slot (fun s => by simp)
    (fun s a ha => by fin_cases a <;> first | exact absurd rfl ha | rfl) rfl (fun a ha => by fin_cases a <;> first | exact absurd rfl ha | rfl) rfl

section Ends
variable (c : Dev nD) (W : HB (F := F) c xhbm)

/-- The four slots, each at some contents. -/
abbrev allSlots : sProp 𝕄 :=
  iprop((∃ f, slotP (F := F) c 0 f) ∗ (∃ f, slotP (F := F) c 1 f) ∗ (∃ f, slotP (F := F) c 2 f) ∗ ∃ f, slotP (F := F) c 3 f)

omit [FloatOps F] in
set_option maxHeartbeats 1000000 in
theorem slots_in : iprop(∃ d, owns (c : Thread nD τ) xbuf fullShare d) ⊢ allSlots (F := F) c := by
  simp only [xbuf, owns_whole]
  exact Ring.slots4_split (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)
omit [FloatOps F] in
set_option maxHeartbeats 1000000 in
theorem slots_out : allSlots (F := F) c ⊢ iprop(∃ d, owns (c : Thread nD τ) xbuf fullShare d) := by
  simp only [xbuf, owns_whole]
  exact Ring.slots4_join (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)

/-! ## The operand as its copies -/

/-- The operand at share `q`. -/
abbrev atShare (q : PosShare TreeShare) : sProp 𝕄 := ((c : Thread nD τ).loc main_arg0) ↦[Finset.univ]{q} W

omit [FloatOps F] in
/-- One more copy split off what is left. -/
theorem halve (n : ℕ) : atShare (F := F) c W (spine n) ⊣⊢ iprop(atShare c W (spine n).left ∗ atShare c W (spine (n + 1))) :=
  pointsTo_share (PosShare.mem_left_op_right (spine n))

/-- The copies of one slot. -/
abbrev copies (s : Fin 4) : sProp 𝕄 := iprop(wholeP c W s 0 ∗ wholeP c W s 1)

omit [FloatOps F] in
/-- The copies lent to slot `s < 3` are two steps down the spine. -/
theorem copies_split (s : Fin 4) (h : s.val < 3) (n n' : ℕ) (hn : n = 2 * s.val) (hn' : n' = 2 * s.val + 2) :
    atShare (F := F) c W (spine n) ⊣⊢ iprop(copies c W s ∗ atShare c W (spine n')) := by
  subst hn hn'
  have e0 : qs s 0 = (spine (2 * s.val)).left := by unfold qs; rw [if_neg (by simp; omega)]; rfl
  have e1 : qs s 1 = (spine (2 * s.val + 1)).left := by unfold qs; rw [if_neg (by simp; omega)]; rfl
  unfold copies wholeP; rw [e0, e1]
  refine ⟨?_, ?_⟩
  · iintro H
    ihave G := (halve (F := F) c W (2 * s.val)).1 $$ H
    icases G with ⟨H0, R⟩
    ihave G' := (halve (F := F) c W (2 * s.val + 1)).1 $$ R
    icases G' with ⟨H1, R⟩
    isplitl [H0 H1]
    · isplitl [H0]; · iexact H0
      iexact H1
    iexact R
  · iintro ⟨⟨H0, H1⟩, R⟩
    iapply (halve (F := F) c W (2 * s.val)).2
    isplitl [H0]; · iexact H0
    iapply (halve (F := F) c W (2 * s.val + 1)).2
    isplitl [H1]; · iexact H1
    iexact R

omit [FloatOps F] in
/-- The last slot's copies are all that is left. -/
theorem copies_last : atShare (F := F) c W (spine 6) ⊣⊢ copies c W 3 := by
  have e0 : qs 3 0 = (spine 6).left := by unfold qs; rw [if_neg (by decide)]; rfl
  have e1 : qs 3 1 = spine 7 := by unfold qs; rw [if_pos (by decide)]
  unfold copies wholeP; rw [e0, e1]; exact halve (F := F) c W 6

omit [FloatOps F] in
theorem copies_all : (hbPt (F := F) c xhbm W : sProp 𝕄) ⊣⊢ iprop(copies c W 0 ∗ copies c W 1 ∗ copies c W 2 ∗ copies c W 3) := by
  change atShare (F := F) c W (spine 0) ⊣⊢ _
  refine ⟨?_, ?_⟩
  · iintro H
    ihave G := (copies_split (F := F) c W 0 (by decide) 0 2 rfl rfl).1 $$ H
    icases G with ⟨H0, R⟩
    ihave G := (copies_split (F := F) c W 1 (by decide) 2 4 rfl rfl).1 $$ R
    icases G with ⟨H1, R⟩
    ihave G := (copies_split (F := F) c W 2 (by decide) 4 6 rfl rfl).1 $$ R
    icases G with ⟨H2, R⟩
    isplitl [H0]; · iexact H0
    isplitl [H1]; · iexact H1
    isplitl [H2]; · iexact H2
    iapply (copies_last (F := F) c W).1; iexact R
  · iintro ⟨H0, H1, H2, H3⟩
    iapply (copies_split (F := F) c W 0 (by decide) 0 2 rfl rfl).2
    isplitl [H0]; · iexact H0
    iapply (copies_split (F := F) c W 1 (by decide) 2 4 rfl rfl).2
    isplitl [H1]; · iexact H1
    iapply (copies_split (F := F) c W 2 (by decide) 4 6 rfl rfl).2
    isplitl [H2]; · iexact H2
    iapply (copies_last (F := F) c W).2; iexact H3

/-! ## The semaphores as the slots' pairs -/

/-- The ring's semaphores at zero, slot by slot. -/
abbrev allCells : sProp 𝕄 := iprop(cellP (F := F) c 0 ∗ cellP (F := F) c 1 ∗ cellP (F := F) c 2 ∗ cellP (F := F) c 3)

omit [FloatOps F] in
theorem cellP_at (s : Fin 4) (a b : SemLoc sig) (ha : cellR s 0 = a) (hb : cellR s 1 = b) :
    cellP (F := F) c s = iprop(semVal ((c : Thread nD τ), a) 0 ∗ semVal ((c : Thread nD τ), b) 0) := by
  unfold cellP; rw [ha, hb]

omit [FloatOps F] in
theorem cells_eq : (Pipeline.ownSems0 (Ix := Unit) (Name := ℕ) (U := Pipeline.UD sig nD τ) (Lvl := ℕ) (Val := Elt F) (τ := τ) osem c : sProp 𝕄)
    ⊣⊢ allCells (F := F) c := by
  rw [Pipeline.ownSems0_eq_of_list c osem [0, 1, 2, 3, 4, 5, 6, 7] (by decide) (by decide)]
  unfold allCells
  rw [cellP_at c 0 (.dma 11) (.dma 12) (by decide) (by decide), cellP_at c 1 (.dma 13) (.dma 14) (by decide) (by decide),
    cellP_at c 2 (.dma 15) (.dma 16) (by decide) (by decide), cellP_at c 3 (.dma 17) (.dma 18) (by decide) (by decide)]
  refine ⟨?_, ?_⟩
  · change iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ⊢ _
    iintro ⟨H0, H1, H2, H3, H4, H5, H6, H7⟩
    isplitl [H0 H1]; · isplitl [H0]; · iexact H0
                       iexact H1
    isplitl [H2 H3]; · isplitl [H2]; · iexact H2
                       iexact H3
    isplitl [H4 H5]; · isplitl [H4]; · iexact H4
                       iexact H5
    isplitl [H6]; · iexact H6
    iexact H7
  · change _ ⊢ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
    iintro ⟨⟨H0, H1⟩, ⟨H2, H3⟩, ⟨H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## Into the ring and out of it -/

/-- The ring before the first point, from what the launch hands over. -/
theorem ring_in : iprop((∃ d, owns (c : Thread nD τ) xbuf fullShare d) ∗ allCells (F := F) c ∗ hbPt c xhbm W) ⊢ ringAt c W 0 := by
  unfold ringAt; rw [if_pos rfl]; unfold Ring.At₀
  rw [Ring.bigSep_fin4]
  simp only [Ring.free]
  iintro ⟨HS, ⟨C0, C1, C2, C3⟩, HW⟩
  iapply Ring.with_homes₀
  ihave HS' := (slots_in (F := F) c) $$ HS
  icases HS' with ⟨⟨%d0, S0⟩, ⟨%d1, S1⟩, ⟨%d2, S2⟩, ⟨%d3, S3⟩⟩
  ihave HW' := (copies_all (F := F) c W).1 $$ HW
  icases HW' with ⟨W0, W1, W2, W3⟩
  isplitl [C0 S0 W0]
  · isplitl [C0]; · iexact C0
    iexists d0; isplitl [S0]; · iexact S0
    iexact W0
  isplitl [C1 S1 W1]
  · isplitl [C1]; · iexact C1
    iexists d1; isplitl [S1]; · iexact S1
    iexact W1
  isplitl [C2 S2 W2]
  · isplitl [C2]; · iexact C2
    iexists d2; isplitl [S2]; · iexact S2
    iexact W2
  · isplitl [C3]; · iexact C3
    iexists d3; isplitl [S3]; · iexact S3
    iexact W3

/-- After the last point every slot is idle again: the pieces the launch handed over. -/
theorem ring_out : ringAt c W 8 ⊢ iprop((∃ d, owns (c : Thread nD τ) xbuf fullShare d) ∗ allCells (F := F) c ∗ hbPt c xhbm W) := by
  unfold ringAt; rw [if_neg (by decide)]
  iintro H
  ihave H' := (Ring.free4_of_At_last _ _ _ _) $$ H
  simp only [Ring.free]
  icases H' with ⟨-, ⟨C0, ⟨%f0, S0, W0⟩⟩, ⟨C1, ⟨%f1, S1, W1⟩⟩, ⟨C2, ⟨%f2, S2, W2⟩⟩, ⟨C3, ⟨%f3, S3, W3⟩⟩⟩
  isplitl [S0 S1 S2 S3]
  · iapply (slots_out (F := F) c); isplitl [S0]; · iexists f0; iexact S0
    isplitl [S1]; · iexists f1; iexact S1
    isplitl [S2]; · iexists f2; iexact S2
    iexists f3; iexact S3
  isplitl [C0 C1 C2 C3]
  · isplitl [C0]; · iexact C0
    isplitl [C1]; · iexact C1
    isplitl [C2]; · iexact C2
    iexact C3
  · iapply (copies_all (F := F) c W).2; isplitl [W0]; · iexact W0
    isplitl [W1]; · iexact W1
    isplitl [W2]; · iexact W2
    iexact W3
end Ends

end Cert.KernelIdeal.Hand

end
-- ==== Proof.KernelIdeal.Names.lean ====
/- The body's own spellings of a slot, a block and a semaphore, each equal to the ring's name for it at the point the
   body runs at. -/
module

public import proofs.«01_k».proof.Proof.KernelIdeal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Names
omit [FloatOps F]

/-! ## Any spelling whose offsets are right -/

theorem rwin_of (s : Fin 4) (w : Fin 2) {off : Fin 3 → Nat} (h : off = ![s.val, 1024 * w.val, 0]) (inb) :
    (xbuf.slice (Rect.unit (s := S4x2048x1024) off S1x1024x1024.size inb) (fun _ => rfl)).squeeze S1024x1024 squeezes_S1x1024x1024_S1024x1024 = rwin s w := by
  subst h; rfl
theorem srcB_of (b : Fin 8) (w : Fin 2) {off : Fin 2 → Nat} (h : off = ![2048 * b.val + 1024 * w.val, 0]) (inb) :
    xhbm.slice (Rect.unit (s := S16384x1024) off S1024x1024.size inb) (fun _ => rfl) = srcB b w := by
  subst h; rfl
theorem cellA_of (s : Fin 4) (w : Fin 2) {off : Fin 2 → Nat} (h : off = ![s.val, w.val]) (inb) :
    (cc0_scratch3.slice (Rect.unit (s := S4x2) off S1x1.size inb)).squeeze S_ squeezes_S1x1_S_ = cellA s w := by
  subst h; rfl

/-! ## The offsets the body computes -/

/-- At the first point transfer `j` fills slot `j` with block `j`. -/
theorem off_first : ∀ t : Fin grid0.N, first (grid0.coords t) → ∀ j : Fin 4,
    k0_off2 (BitVec.ofNat 32 j.val) = ![(Ring.sl 4 (t.val + j.val)).val, 1024 * 0, 0]
    ∧ k0_off5 (BitVec.ofNat 32 j.val) = ![(Ring.sl 4 (t.val + j.val)).val, 1024 * 1, 0]
    ∧ k0_off1 (BitVec.ofNat 32 j.val) = ![(Ring.sl 4 (t.val + j.val)).val, 0]
    ∧ k0_off4 (BitVec.ofNat 32 j.val) = ![(Ring.sl 4 (t.val + j.val)).val, 1]
    ∧ k0_off3 (BitVec.ofNat 32 j.val) 0#32 = ![2048 * (Ring.bk 8 (t.val + j.val)).val + 1024 * 0, 0]
    ∧ k0_off3 (BitVec.ofNat 32 j.val) 1024#32 = ![2048 * (Ring.bk 8 (t.val + j.val)).val + 1024 * 1, 0] := by decide +kernel
/-- A later point `t` starts block `t + 3`. -/
theorem off_more : ∀ t : Fin grid0.N, more (grid0.coords t) →
    k0_off7 (grid0.coords t) = ![(Ring.sl 4 (t.val + 3)).val, 1024 * 0, 0]
    ∧ k0_off10 (grid0.coords t) = ![(Ring.sl 4 (t.val + 3)).val, 1024 * 1, 0]
    ∧ k0_off6 (grid0.coords t) = ![(Ring.sl 4 (t.val + 3)).val, 0]
    ∧ k0_off9 (grid0.coords t) = ![(Ring.sl 4 (t.val + 3)).val, 1]
    ∧ k0_off8 (grid0.coords t) 0#32 = ![2048 * (Ring.bk 8 (t.val + 3)).val + 1024 * 0, 0]
    ∧ k0_off8 (grid0.coords t) 1024#32 = ![2048 * (Ring.bk 8 (t.val + 3)).val + 1024 * 1, 0] := by decide +kernel
/-- Every point `t` waits for block `t` and reads its slot. -/
theorem off_wait : ∀ t : Fin grid0.N,
    k0_off12 (grid0.coords t) = ![(Ring.sl 4 t.val).val, 1024 * 0, 0]
    ∧ k0_off15 (grid0.coords t) = ![(Ring.sl 4 t.val).val, 1024 * 1, 0]
    ∧ k0_off11 (grid0.coords t) = ![(Ring.sl 4 t.val).val, 0]
    ∧ k0_off14 (grid0.coords t) = ![(Ring.sl 4 t.val).val, 1]
    ∧ k0_off13 (grid0.coords t) 0#32 = ![2048 * (Ring.bk 8 t.val).val + 1024 * 0, 0]
    ∧ k0_off13 (grid0.coords t) 1024#32 = ![2048 * (Ring.bk 8 t.val).val + 1024 * 1, 0]
    ∧ k0_off16 (grid0.coords t) = ![(Ring.sl 4 t.val).val, 0, 0] := by decide +kernel

/-! ## The names, as the run meets them -/

variable (t : Fin grid0.N)
@[sl_canon] theorem first0_dst0 (h : first (grid0.coords t)) :
    (xbuf.slice (Rect.unit (s := S4x2048x1024) (k0_off2 0#32) S1x1024x1024.size (k0_off2_inb (grid0.coords t) h 0)) (fun _ => rfl)).squeeze S1024x1024 squeezes_S1x1024x1024_S1024x1024 = rwin (Ring.sl 4 t.val) 0 :=
  rwin_of _ _ (off_first t h 0).1 _
@[sl_canon] theorem first0_dst1 (h : first (grid0.coords t)) :
    (xbuf.slice (Rect.unit (s := S4x2048x1024) (k0_off5 0#32) S1x1024x1024.size (k0_off5_inb (grid0.coords t) h 0)) (fun _ => rfl)).squeeze S1024x1024 squeezes_S1x1024x1024_S1024x1024 = rwin (Ring.sl 4 t.val) 1 :=
  rwin_of _ _ (off_first t h 0).2.1 _
@[sl_canon] theorem first0_sem0 (h : first (grid0.coords t)) :
    (cc0_scratch3.slice (Rect.unit (s := S4x2) (k0_off1 0#32) S1x1.size (k0_off1_inb (grid0.coords t) h 0))).squeeze S_ squeezes_S1x1_S_ = cellA (Ring.sl 4 t.val) 0 :=
  cellA_of _ _ (off_first t h 0).2.2.1 _
@[sl_canon] theorem first0_sem1 (h : first (grid0.coords t)) :
    (cc0_scratch3.slice (Rect.unit (s := S4x2) (k0_off4 0#32) S1x1.size (k0_off4_inb (grid0.coords t) h 0))).squeeze S_ squeezes_S1x1_S_ = cellA (Ring.sl 4 t.val) 1 :=
  cellA_of _ _ (off_first t h 0).2.2.2.1 _
@[sl_canon] theorem first0_src0 (h : first (grid0.coords t)) :
    xhbm.slice (Rect.unit (s := S16384x1024) (k0_off3 0#32 0#32) S1024x1024.size (k0_off3_inb (grid0.coords t) h 0 0)) (fun _ => rfl) = srcB (Ring.bk 8 t.val) 0 :=
  srcB_of _ _ (off_first t h 0).2.2.2.2.1 _
@[sl_canon] theorem first0_src1 (h : first (grid0.coords t)) :
    xhbm.slice (Rect.unit (s := S16384x1024) (k0_off3 0#32 1024#32) S1024x1024.size (k0_off3_inb (grid0.coords t) h 0 1)) (fun _ => rfl) = srcB (Ring.bk 8 t.val) 1 :=
  srcB_of _ _ (off_first t h 0).2.2.2.2.2 _
@[sl_canon] theorem first1_dst0 (h : first (grid0.coords t)) :
    (xbuf.slice (Rect.unit (s := S4x2048x1024) (k0_off2 1#32) S1x1024x1024.size (k0_off2_inb (grid0.coords t) h 1)) (fun _ => rfl)).squeeze S1024x1024 squeezes_S1x1024x1024_S1024x1024 = rwin (Ring.sl 4 (t.val + 1)) 0 :=
  rwin_of _ _ (off_first t h 1).1 _
@[sl_canon] theorem first1_dst1 (h : first (grid0.coords t)) :
    (xbuf.slice (Rect.unit (s := S4x2048x1024) (k0_off5 1#32) S1x1024x1024.size (k0_off5_inb (grid0.coords t) h 1)) (fun _ => rfl)).squeeze S1024x1024 squeezes_S1x1024x1024_S1024x1024 = rwin (Ring.sl 4 (t.val + 1)) 1 :=
  rwin_of _ _ (off_first t h 1).2.1 _
@[sl_canon] theorem first1_sem0 (h : first (grid0.coords t)) :
    (cc0_scratch3.slice (Rect.unit (s := S4x2) (k0_off1 1#32) S1x1.size (k0_off1_inb (grid0.coords t) h 1))).squeeze S_ squeezes_S1x1_S_ = cellA (Ring.sl 4 (t.val + 1)) 0 :=
  cellA_of _ _ (off_first t h 1).2.2.1 _
@[sl_canon] theorem first1_sem1 (h : first (grid0.coords t)) :
    (cc0_scratch3.slice (Rect.unit (s := S4x2) (k0_off4 1#32) S1x1.size (k0_off4_inb (grid0.coords t) h 1))).squeeze S_ squeezes_S1x1_S_ = cellA (Ring.sl 4 (t.val + 1)) 1 :=
  cellA_of _ _ (off_first t h 1).2.2.2.1 _
@[sl_canon] theorem first1_src0 (h : first (grid0.coords t)) :
    xhbm.slice (Rect.unit (s := S16384x1024) (k0_off3 1#32 0#32) S1024x1024.size (k0_off3_inb (grid0.coords t) h 1 0)) (fun _ => rfl) = srcB (Ring.bk 8 (t.val + 1)) 0 :=
  srcB_of _ _ (off_first t h 1).2.2.2.2.1 _
@[sl_canon] theorem first1_src1 (h : first (grid0.coords t)) :
    xhbm.slice (Rect.unit (s := S16384x1024) (k0_off3 1#32 1024#32) S1024x1024.size (k0_off3_inb (grid0.coords t) h 1 1)) (fun _ => rfl) = srcB (Ring.bk 8 (t.val + 1)) 1 :=
  srcB_of _ _ (off_first t h 1).2.2.2.2.2 _
@[sl_canon] theorem first2_dst0 (h : first (grid0.coords t)) :
    (xbuf.slice (Rect.unit (s := S4x2048x1024) (k0_off2 2#32) S1x1024x1024.size (k0_off2_inb (grid0.coords t) h 2)) (fun _ => rfl)).squeeze S1024x1024 squeezes_S1x1024x1024_S1024x1024 = rwin (Ring.sl 4 (t.val + 2)) 0 :=
  rwin_of _ _ (off_first t h 2).1 _
@[sl_canon] theorem first2_dst1 (h : first (grid0.coords t)) :
    (xbuf.slice (Rect.unit (s := S4x2048x1024) (k0_off5 2#32) S1x1024x1024.size (k0_off5_inb (grid0.coords t) h 2)) (fun _ => rfl)).squeeze S1024x1024 squeezes_S1x1024x1024_S1024x1024 = rwin (Ring.sl 4 (t.val + 2)) 1 :=
  rwin_of _ _ (off_first t h 2).2.1 _
@[sl_canon] theorem first2_sem0 (h : first (grid0.coords t)) :
    (cc0_scratch3.slice (Rect.unit (s := S4x2) (k0_off1 2#32) S1x1.size (k0_off1_inb (grid0.coords t) h 2))).squeeze S_ squeezes_S1x1_S_ = cellA (Ring.sl 4 (t.val + 2)) 0 :=
  cellA_of _ _ (off_first t h 2).2.2.1 _
@[sl_canon] theorem first2_sem1 (h : first (grid0.coords t)) :
    (cc0_scratch3.slice (Rect.unit (s := S4x2) (k0_off4 2#32) S1x1.size (k0_off4_inb (grid0.coords t) h 2))).squeeze S_ squeezes_S1x1_S_ = cellA (Ring.sl 4 (t.val + 2)) 1 :=
  cellA_of _ _ (off_first t h 2).2.2.2.1 _
@[sl_canon] theorem first2_src0 (h : first (grid0.coords t)) :
    xhbm.slice (Rect.unit (s := S16384x1024) (k0_off3 2#32 0#32) S1024x1024.size (k0_off3_inb (grid0.coords t) h 2 0)) (fun _ => rfl) = srcB (Ring.bk 8 (t.val + 2)) 0 :=
  srcB_of _ _ (off_first t h 2).2.2.2.2.1 _
@[sl_canon] theorem first2_src1 (h : first (grid0.coords t)) :
    xhbm.slice (Rect.unit (s := S16384x1024) (k0_off3 2#32 1024#32) S1024x1024.size (k0_off3_inb (grid0.coords t) h 2 1)) (fun _ => rfl) = srcB (Ring.bk 8 (t.val + 2)) 1 :=
  srcB_of _ _ (off_first t h 2).2.2.2.2.2 _
@[sl_canon] theorem first3_dst0 (h : first (grid0.coords t)) :
    (xbuf.slice (Rect.unit (s := S4x2048x1024) (k0_off2 3#32) S1x1024x1024.size (k0_off2_inb (grid0.coords t) h 3)) (fun _ => rfl)).squeeze S1024x1024 squeezes_S1x1024x1024_S1024x1024 = rwin (Ring.sl 4 (t.val + 3)) 0 :=
  rwin_of _ _ (off_first t h 3).1 _
@[sl_canon] theorem first3_dst1 (h : first (grid0.coords t)) :
    (xbuf.slice (Rect.unit (s := S4x2048x1024) (k0_off5 3#32) S1x1024x1024.size (k0_off5_inb (grid0.coords t) h 3)) (fun _ => rfl)).squeeze S1024x1024 squeezes_S1x1024x1024_S1024x1024 = rwin (Ring.sl 4 (t.val + 3)) 1 :=
  rwin_of _ _ (off_first t h 3).2.1 _
@[sl_canon] theorem first3_sem0 (h : first (grid0.coords t)) :
    (cc0_scratch3.slice (Rect.unit (s := S4x2) (k0_off1 3#32) S1x1.size (k0_off1_inb (grid0.coords t) h 3))).squeeze S_ squeezes_S1x1_S_ = cellA (Ring.sl 4 (t.val + 3)) 0 :=
  cellA_of _ _ (off_first t h 3).2.2.1 _
@[sl_canon] theorem first3_sem1 (h : first (grid0.coords t)) :
    (cc0_scratch3.slice (Rect.unit (s := S4x2) (k0_off4 3#32) S1x1.size (k0_off4_inb (grid0.coords t) h 3))).squeeze S_ squeezes_S1x1_S_ = cellA (Ring.sl 4 (t.val + 3)) 1 :=
  cellA_of _ _ (off_first t h 3).2.2.2.1 _
@[sl_canon] theorem first3_src0 (h : first (grid0.coords t)) :
    xhbm.slice (Rect.unit (s := S16384x1024) (k0_off3 3#32 0#32) S1024x1024.size (k0_off3_inb (grid0.coords t) h 3 0)) (fun _ => rfl) = srcB (Ring.bk 8 (t.val + 3)) 0 :=
  srcB_of _ _ (off_first t h 3).2.2.2.2.1 _
@[sl_canon] theorem first3_src1 (h : first (grid0.coords t)) :
    xhbm.slice (Rect.unit (s := S16384x1024) (k0_off3 3#32 1024#32) S1024x1024.size (k0_off3_inb (grid0.coords t) h 3 1)) (fun _ => rfl) = srcB (Ring.bk 8 (t.val + 3)) 1 :=
  srcB_of _ _ (off_first t h 3).2.2.2.2.2 _
@[sl_canon] theorem more_dst0 (h : more (grid0.coords t)) :
    (xbuf.slice (Rect.unit (s := S4x2048x1024) (k0_off7 (grid0.coords t)) S1x1024x1024.size (k0_off7_inb (grid0.coords t) h)) (fun _ => rfl)).squeeze S1024x1024 squeezes_S1x1024x1024_S1024x1024 = rwin (Ring.sl 4 (t.val + 3)) 0 :=
  rwin_of _ _ (off_more t h).1 _
@[sl_canon] theorem more_dst1 (h : more (grid0.coords t)) :
    (xbuf.slice (Rect.unit (s := S4x2048x1024) (k0_off10 (grid0.coords t)) S1x1024x1024.size (k0_off10_inb (grid0.coords t) h)) (fun _ => rfl)).squeeze S1024x1024 squeezes_S1x1024x1024_S1024x1024 = rwin (Ring.sl 4 (t.val + 3)) 1 :=
  rwin_of _ _ (off_more t h).2.1 _
@[sl_canon] theorem more_sem0 (h : more (grid0.coords t)) :
    (cc0_scratch3.slice (Rect.unit (s := S4x2) (k0_off6 (grid0.coords t)) S1x1.size (k0_off6_inb (grid0.coords t) h))).squeeze S_ squeezes_S1x1_S_ = cellA (Ring.sl 4 (t.val + 3)) 0 :=
  cellA_of _ _ (off_more t h).2.2.1 _
@[sl_canon] theorem more_sem1 (h : more (grid0.coords t)) :
    (cc0_scratch3.slice (Rect.unit (s := S4x2) (k0_off9 (grid0.coords t)) S1x1.size (k0_off9_inb (grid0.coords t) h))).squeeze S_ squeezes_S1x1_S_ = cellA (Ring.sl 4 (t.val + 3)) 1 :=
  cellA_of _ _ (off_more t h).2.2.2.1 _
@[sl_canon] theorem more_src0 (h : more (grid0.coords t)) :
    xhbm.slice (Rect.unit (s := S16384x1024) (k0_off8 (grid0.coords t) 0#32) S1024x1024.size (k0_off8_inb (grid0.coords t) h 0)) (fun _ => rfl) = srcB (Ring.bk 8 (t.val + 3)) 0 :=
  srcB_of _ _ (off_more t h).2.2.2.2.1 _
@[sl_canon] theorem more_src1 (h : more (grid0.coords t)) :
    xhbm.slice (Rect.unit (s := S16384x1024) (k0_off8 (grid0.coords t) 1024#32) S1024x1024.size (k0_off8_inb (grid0.coords t) h 1)) (fun _ => rfl) = srcB (Ring.bk 8 (t.val + 3)) 1 :=
  srcB_of _ _ (off_more t h).2.2.2.2.2 _
@[sl_canon] theorem wait_dst0  :
    (xbuf.slice (Rect.unit (s := S4x2048x1024) (k0_off12 (grid0.coords t)) S1x1024x1024.size (k0_off12_inb (grid0.coords t))) (fun _ => rfl)).squeeze S1024x1024 squeezes_S1x1024x1024_S1024x1024 = rwin (Ring.sl 4 t.val) 0 :=
  rwin_of _ _ (off_wait t).1 _
@[sl_canon] theorem wait_dst1  :
    (xbuf.slice (Rect.unit (s := S4x2048x1024) (k0_off15 (grid0.coords t)) S1x1024x1024.size (k0_off15_inb (grid0.coords t))) (fun _ => rfl)).squeeze S1024x1024 squeezes_S1x1024x1024_S1024x1024 = rwin (Ring.sl 4 t.val) 1 :=
  rwin_of _ _ (off_wait t).2.1 _
@[sl_canon] theorem wait_sem0  :
    (cc0_scratch3.slice (Rect.unit (s := S4x2) (k0_off11 (grid0.coords t)) S1x1.size (k0_off11_inb (grid0.coords t)))).squeeze S_ squeezes_S1x1_S_ = cellA (Ring.sl 4 t.val) 0 :=
  cellA_of _ _ (off_wait t).2.2.1 _
@[sl_canon] theorem wait_sem1  :
    (cc0_scratch3.slice (Rect.unit (s := S4x2) (k0_off14 (grid0.coords t)) S1x1.size (k0_off14_inb (grid0.coords t)))).squeeze S_ squeezes_S1x1_S_ = cellA (Ring.sl 4 t.val) 1 :=
  cellA_of _ _ (off_wait t).2.2.2.1 _
@[sl_canon] theorem wait_src0  :
    xhbm.slice (Rect.unit (s := S16384x1024) (k0_off13 (grid0.coords t) 0#32) S1024x1024.size (k0_off13_inb (grid0.coords t) 0)) (fun _ => rfl) = srcB (Ring.bk 8 t.val) 0 :=
  srcB_of _ _ (off_wait t).2.2.2.2.1 _
@[sl_canon] theorem wait_src1  :
    xhbm.slice (Rect.unit (s := S16384x1024) (k0_off13 (grid0.coords t) 1024#32) S1024x1024.size (k0_off13_inb (grid0.coords t) 1)) (fun _ => rfl) = srcB (Ring.bk 8 t.val) 1 :=
  srcB_of _ _ (off_wait t).2.2.2.2.2.1 _
/-- The box the body loads is the waited slot, in the ring's spelling. -/
instance (priority := high) boxAt : ClosedOff (k0_off16 (grid0.coords t)) := ⟨![(Ring.sl 4 t.val).val, 0, 0], (off_wait t).2.2.2.2.2.2⟩
end Names

end Cert.KernelIdeal.Hand

end
-- ==== Proof.KernelIdeal.Loads.lean ====
/- Loads and stores of a whole buffer, the block of the operand a slot shows, and what the body stores of them. -/
module

public import proofs.«01_k».proof.Proof.KernelIdeal.Names
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

omit [FloatOps F] in
/-- A load of a whole buffer held at `X` reads `X`. -/
theorem load_full {sp : Space} {s : Shape} {e : EltTy} {M : Memref sig .tc sp s e} (h : M.IsWhole) (X : s.Idx → Elt F e)
    {off : Fin s.rank → ℕ} (inb : ∀ a, off a + s.size a ≤ s.size a) :
    M.view.readAt (Elt F) (Rect.unit (s := s) off s.size inb).toLoadRect (h.unread X) = X := by
  funext x
  refine (h.readAt_unread X _ x).trans (congrArg X ?_)
  funext a
  have := inb a
  exact Fin.ext (show off a + 1 * (x a).val = (x a).val by omega)

omit [FloatOps F] in
/-- A store over a whole buffer leaves what it stores. -/
theorem store_full {sp : Space} {s : Shape} {e : EltTy} (v : View sig .tc sp s e) (f : v.ty.Contents (Elt F)) (x : s.Idx → Elt F e)
    {off : Fin s.rank → ℕ} (inb : ∀ a, off a + s.size a ≤ s.size a) (L : List (View.Piece (Elt F) s e)) :
    v.read (Elt F) (v.writes (Elt F) f (⟨Rect.unit (s := s) off s.size inb, x⟩ :: L)) = x := by
  funext y
  exact View.read_writes_cons_unit_of_mem v f inb x L y y rfl fun a => by have := inb a; omega

/-- Block `b` of the operand, as the body loads it from its slot. -/
def xblk (c : Dev nD) (X : HB (F := F) c xhbm) (b : Fin 8) : Vec F S1x2048x1024 .f32 := fun j =>
  X (ValueIdx.ix2 ⟨2048 * b.val + (j 1).val, by have := b.isLt; have h : (j 1).val < 2048 := (j 1).isLt; omega⟩ (j 2))

omit [FloatOps F] in
/-- The load of a slot that holds block `b` reads that block. -/
theorem load_slot (c : Dev nD) (X : HB (F := F) c xhbm) (b : Fin 8) (s : Fin 4) {off : Fin 3 → ℕ} (h : off = ![s.val, 0, 0]) (inb) :
    xbuf.view.readAt (Elt F) (Rect.unit (s := S4x2048x1024) off S1x2048x1024.size inb).toLoadRect (slotVal c X b) = xblk c X b := by
  subst h
  funext j
  show X _ = X _
  congr 1
  funext a
  apply Fin.ext
  fin_cases a
  · show 2048 * b.val + (0 + 1 * (j 1).val) = 2048 * b.val + (j 1).val
    omega
  · show 0 + 1 * (j 2).val = (j 2).val
    omega

theorem pay1_congr {a a' : FVec F S2048x128 .f32} {b b' : Vec F S1x128 .f32} {x3 x3' : Vec F S128x256 .f32} {x4 x4' : Vec F S256 .f32} {x5 x5' : Vec F S256x128 .f32}
    {x6 x6' : Vec F S128 .f32} {x7 x7' : Vec F S128x1 .f32} {x8 x8' : Vec F S1 .f32}
    (ha : a = a') (hb : b = b') (h3 : x3 = x3') (h4 : x4 = x4') (h5 : x5 = x5') (h6 : x6 = x6') (h7 : x7 = x7') (h8 : x8 = x8') :
    k0_pay1 a b x3 x4 x5 x6 x7 x8 = k0_pay1 a' b' x3' x4' x5' x6' x7' x8' := by
  subst ha hb h3 h4 h5 h6 h7 h8; rfl

/-- What the body stores at the point of block `b`: the layers over that block, the folded weights `s1` and bias `s2`. -/
abbrev outBlk (c : Dev nD) (X : HB (F := F) c xhbm) (b : Fin 8) (s1 : Vec F S1024x128 .f32) (s2 : Vec F S1x128 .f32) (x3 : Vec F S128x256 .f32) (x4 : Vec F S256 .f32)
    (x5 : Vec F S256x128 .f32) (x6 : Vec F S128 .f32) (x7 : Vec F S128x1 .f32) (x8 : Vec F S1 .f32) : FVec F S2048 .f32 :=
  k0_pay1 (k0_pay6 (xblk c X b) s1) s2 x3 x4 x5 x6 x7 x8

/-! ## The folded first layer -/

/-- The first layer's weights over the 1024 columns of `x`: rows for the features before the species columns, zero rows at
    the species columns, rows for the features after them. -/
def foldW (x1 : Vec F S1396x128 .f32) : Vec F S1024x128 .f32 := fun j =>
  if h : (j 0).val < 836 then x1 (ValueIdx.ix2 ⟨(j 0).val, by omega⟩ (j 1))
  else if h' : (j 0).val < 848 then (Scalar.ofBits .f32 0x00000000#32 : F .f32)
  else x1 (ValueIdx.ix2 ⟨(j 0).val - 12, by have h : (j 0).val < 1024 := (j 0).isLt; omega⟩ (j 1))

/-- The embedding's row 0, and the first layer's rows for the embedded features. -/
def embRow (x0 : Vec F S1026x32 .f32) : Vec F S1x32 .f32 := fun j => x0 (ValueIdx.ix2 ⟨0, by decide⟩ (j 1))
def embW (x1 : Vec F S1396x128 .f32) : Vec F S384x128 .f32 := fun j =>
  x1 (ValueIdx.ix2 ⟨1012 + (j 0).val, by have h : (j 0).val < 384 := (j 0).isLt; omega⟩ (j 1))

/-- The first layer's bias with the embedded features' product added. -/
def foldC (x0 : Vec F S1026x32 .f32) (x1 : Vec F S1396x128 .f32) (x2 : Vec F S128 .f32) : Vec F S1x128 .f32 :=
  k0_pay5 (embRow x0) (embW x1) x2

omit [FloatOps F] in
/-- A load of a whole buffer reads what the buffer shows. -/
theorem load_read {sp : Space} {s : Shape} {e : EltTy} (v : View sig .tc sp s e) (f : v.ty.Contents (Elt F))
    {off : Fin s.rank → ℕ} (inb : ∀ a, off a + s.size a ≤ s.size a) :
    v.readAt (Elt F) (Rect.unit (s := s) off s.size inb).toLoadRect f = v.read (Elt F) f := by
  funext x
  show v.read (Elt F) f _ = _
  congr 1
  funext a
  have := inb a
  exact Fin.ext (show off a + 1 * (x a).val = (x a).val by omega)

/-- The three row stores of the first point leave the folded weights. -/
theorem fold_stores (v : View sig .tc .vmem S1024x128 .f32) (f : v.ty.Contents (Elt F)) {M : Memref sig .tc .vmem S1396x128 .f32} (h : M.IsWhole)
    (x1 : Vec F S1396x128 .f32) (i1 i2 i3 j1 j2) :
    v.read (Elt F) (v.writes (Elt F) f
      [⟨Rect.unit (s := S1024x128) ![848, 0] S176x128.size i1, k0_pay4 (M.view.readAt (Elt F) (Rect.unit (s := S1396x128) ![836, 0] S176x128.size j1).toLoadRect (h.unread x1))⟩,
       ⟨Rect.unit (s := S1024x128) ![836, 0] S12x128.size i2, k0_pay3 (F := F)⟩,
       ⟨Rect.unit (s := S1024x128) ![0, 0] S836x128.size i3, k0_pay2 (M.view.readAt (Elt F) (Rect.unit (s := S1396x128) ![0, 0] S836x128.size j2).toLoadRect (h.unread x1))⟩])
      = foldW x1 := by
  funext j
  have hj0 : (j 0).val < 1024 := (j 0).isLt
  have hj1 : (j 1).val < 128 := (j 1).isLt
  unfold foldW
  by_cases h848 : 848 ≤ (j 0).val
  · rw [dif_neg (by omega), dif_neg (by omega)]
    refine (View.read_writes_cons_rows_of_mem v f i1 _ _ j (ValueIdx.ix2 (⟨(j 0).val - 848, by omega⟩ : Fin 176) (j 1 : Fin 128)) rfl
      (show (j 0).val = 848 + ((j 0).val - 848) by omega) rfl).trans ?_
    unfold k0_pay4
    rw [shapeCast_self]
    refine (h.readAt_unread x1 _ _).trans (congrArg x1 ?_)
    funext a; apply Fin.ext
    fin_cases a
    · show 836 + 1 * ((j 0).val - 848) = (j 0).val - 12
      omega
    · show 0 + 1 * (j 1).val = (j 1).val
      omega
  · refine (View.read_writes_cons_rows_of_not_mem v f i1 _ _ j rfl rfl (Or.inl (by omega))).trans ?_
    by_cases h836 : 836 ≤ (j 0).val
    · rw [dif_neg (by omega), dif_pos (by omega)]
      refine (View.read_writes_cons_rows_of_mem v f i2 _ _ j (ValueIdx.ix2 (⟨(j 0).val - 836, by omega⟩ : Fin 12) (j 1 : Fin 128)) rfl
        (show (j 0).val = 836 + ((j 0).val - 836) by omega) rfl).trans ?_
      unfold k0_pay3
      rw [shapeCast_self]
      rfl
    · rw [dif_pos (by omega)]
      refine (View.read_writes_cons_rows_of_not_mem v f i2 _ _ j rfl rfl (Or.inl (by omega))).trans ?_
      refine (View.read_writes_cons_rows_of_mem v f i3 _ _ j (ValueIdx.ix2 (⟨(j 0).val, by omega⟩ : Fin 836) (j 1 : Fin 128)) rfl
        (show (j 0).val = 0 + (j 0).val by omega) rfl).trans ?_
      unfold k0_pay2
      rw [shapeCast_self]
      refine (h.readAt_unread x1 _ _).trans (congrArg x1 ?_)
      funext a; apply Fin.ext
      fin_cases a
      · show 0 + 1 * (j 0).val = (j 0).val
        omega
      · show 0 + 1 * (j 1).val = (j 1).val
        omega

/-- The first point's loads of the embedding's row 0, of the rows for the embedded features and of the bias give the folded bias. -/
theorem fold_bias {M2 : Memref sig .tc .vmem S1026x32 .f32} (h2 : M2.IsWhole) {M3 : Memref sig .tc .vmem S1396x128 .f32} (h3 : M3.IsWhole)
    {M4 : Memref sig .tc .vmem S128 .f32} (h4 : M4.IsWhole) (x0 : Vec F S1026x32 .f32) (x1 : Vec F S1396x128 .f32) (x2 : Vec F S128 .f32) (i1 i2 i3) :
    k0_pay5 (M2.view.readAt (Elt F) (Rect.unit (s := S1026x32) ![0, 0] S1x32.size i1).toLoadRect (h2.unread x0))
      (M3.view.readAt (Elt F) (Rect.unit (s := S1396x128) ![1012, 0] S384x128.size i2).toLoadRect (h3.unread x1))
      (M4.view.readAt (Elt F) (Rect.unit (s := S128) ![0] S128.size i3).toLoadRect (h4.unread x2)) = foldC x0 x1 x2 := by
  have e1 : M2.view.readAt (Elt F) (Rect.unit (s := S1026x32) ![0, 0] S1x32.size i1).toLoadRect (h2.unread x0) = embRow x0 := by
    funext x
    have hx : (x 0).val < 1 := (x 0).isLt
    refine (h2.readAt_unread x0 _ x).trans (congrArg x0 ?_)
    funext a; apply Fin.ext
    fin_cases a
    · show 0 + 1 * (x 0).val = 0
      omega
    · show 0 + 1 * (x 1).val = (x 1).val
      omega
  have e2 : M3.view.readAt (Elt F) (Rect.unit (s := S1396x128) ![1012, 0] S384x128.size i2).toLoadRect (h3.unread x1) = embW x1 := by
    funext x
    refine (h3.readAt_unread x1 _ x).trans (congrArg x1 ?_)
    funext a; apply Fin.ext
    fin_cases a
    · show 1012 + 1 * (x 0).val = 1012 + (x 0).val
      omega
    · show 0 + 1 * (x 1).val = (x 1).val
      omega
  rw [e1, e2, load_full h4 x2 i3]
  rfl

end Cert.KernelIdeal.Hand

end
-- ==== Proof.KernelIdeal.RunA.lean ====
/- The body at the first point: it starts the first four blocks, folds the first layer's weights and bias, and goes on as
   every point does. -/
module

public import proofs.«01_k».proof.Proof.KernelIdeal.Loads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
theorem run_first (c : Dev nD) (t : Fin cfg0.N) (arg2 : Memref sig .tc .vmem S1026x32 .f32) (harg2 : arg2.IsWhole) (arg3 : Memref sig .tc .vmem S1396x128 .f32) (harg3 : arg3.IsWhole) (arg4 : Memref sig .tc .vmem S128 .f32) (harg4 : arg4.IsWhole) (arg5 : Memref sig .tc .vmem S128x256 .f32) (harg5 : arg5.IsWhole) (arg6 : Memref sig .tc .vmem S256 .f32) (harg6 : arg6.IsWhole) (arg7 : Memref sig .tc .vmem S256x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S2048 .f32) (harg11 : arg11.IsWhole) (arg13 : Memref sig .tc .vmem S1024x128 .f32) (harg13 : arg13.IsWhole) (arg14 : Memref sig .tc .vmem S1x128 .f32) (harg14 : arg14.IsWhole) (hc0 : first (grid0.coords t)) (hc1 : ¬more (grid0.coords t))
    (x0 : Vec F S1026x32 .f32) (x1 : Vec F S1396x128 .f32) (x2 : Vec F S128 .f32) (x3 : Vec F S128x256 .f32) (x4 : Vec F S256 .f32) (x5 : Vec F S256x128 .f32) (x6 : Vec F S128 .f32) (x7 : Vec F S128x1 .f32) (x8 : Vec F S1 .f32) (X : HB (F := F) c xhbm)
    (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg13 fullShare d) ∗ (∃ d, owns (c : Thread nD τ) arg14 fullShare d)
        ∗ Ring.free (cellP c) (slotW c X) (Ring.sl 4 t.val) ∗ Ring.free (cellP c) (slotW c X) (Ring.sl 4 (t.val + 1)) ∗ Ring.free (cellP c) (slotW c X) (Ring.sl 4 (t.val + 2)) ∗ Ring.free (cellP c) (slotW c X) (Ring.sl 4 (t.val + 3)) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlk c X (Ring.bk 8 t.val) (foldW x1) (foldC x0 x1 x2) x3 x4 x5 x6 x7 x8) ∗ owns (c : Thread nD τ) arg13 fullShare (foldW x1) ∗ owns (c : Thread nD τ) arg14 fullShare (foldC x0 x1 x2)
            ∗ Ring.free (cellP c) (slotW c X) (Ring.sl 4 t.val) ∗ Ring.inflight (flightW c X) (Ring.sl 4 (t.val + 1)) (Ring.bk 8 (t.val + 1)) ∗ Ring.inflight (flightW c X) (Ring.sl 4 (t.val + 2)) (Ring.bk 8 (t.val + 2)) ∗ Ring.inflight (flightW c X) (Ring.sl 4 (t.val + 3)) (Ring.bk 8 (t.val + 3)) ∗ (∃ W', owes (c : Thread nD τ) 0 W')) -∗ K ⟨⟩))
      ⊢ wp frame (wpE (defs₀ (F := F)) Variants.none c none) Set.univ (cc0__mlp_kernel (grid0.coords t) (Memref.whole main_arg0) (Memref.isWhole_whole _) arg2 harg2 arg3 harg3 arg4 harg4 arg5 harg5 arg6 harg6 arg7 harg7 arg8 harg8 arg9 harg9 arg10 harg10 arg11 harg11 xbuf (Memref.isWhole_whole _) arg13 harg13 arg14 harg14 cc0_scratch3) K := by
  haveI : Fact (first (grid0.coords t)) := ⟨hc0⟩
  haveI : Fact (¬more (grid0.coords t)) := ⟨hc1⟩
  simp only [cc0__mlp_kernel_eq_skeleton]; unfold cc0__mlp_kernel_skel
  simp only [k0_part3_eq_skeleton, k0_part1_eq_skeleton, k0_part2_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d1, %fs1, -, HS1⟩, ⟨%d2, %fs2, -, HS2⟩, ⟨⟨Ha0, Hb0⟩, ⟨%g0, Hn0, Hv0, Hw0⟩⟩, ⟨⟨Ha1, Hb1⟩, ⟨%g1, Hn1, Hv1, Hw1⟩⟩, ⟨⟨Ha2, Hb2⟩, ⟨%g2, Hn2, Hv2, Hw2⟩⟩, ⟨⟨Ha3, Hb3⟩, ⟨%g3, Hn3, Hv3, Hw3⟩⟩, HW, Hk⟩
  ihave Hn0' := (slot_halves (F := F) c (Ring.sl 4 t.val) g0).1 $$ Hn0
  icases Hn0' with ⟨Hna0, Hnb0⟩
  ihave Hv0' := (src_split (F := F) c X (Ring.sl 4 t.val) 0 (Ring.bk 8 t.val)).1 $$ Hv0
  icases Hv0' with ⟨Hha0, Hqa0⟩
  ihave Hw0' := (src_split (F := F) c X (Ring.sl 4 t.val) 1 (Ring.bk 8 t.val)).1 $$ Hw0
  icases Hw0' with ⟨Hhb0, Hqb0⟩
  ihave Hn1' := (slot_halves (F := F) c (Ring.sl 4 (t.val + 1)) g1).1 $$ Hn1
  icases Hn1' with ⟨Hna1, Hnb1⟩
  ihave Hv1' := (src_split (F := F) c X (Ring.sl 4 (t.val + 1)) 0 (Ring.bk 8 (t.val + 1))).1 $$ Hv1
  icases Hv1' with ⟨Hha1, Hqa1⟩
  ihave Hw1' := (src_split (F := F) c X (Ring.sl 4 (t.val + 1)) 1 (Ring.bk 8 (t.val + 1))).1 $$ Hw1
  icases Hw1' with ⟨Hhb1, Hqb1⟩
  ihave Hn2' := (slot_halves (F := F) c (Ring.sl 4 (t.val + 2)) g2).1 $$ Hn2
  icases Hn2' with ⟨Hna2, Hnb2⟩
  ihave Hv2' := (src_split (F := F) c X (Ring.sl 4 (t.val + 2)) 0 (Ring.bk 8 (t.val + 2))).1 $$ Hv2
  icases Hv2' with ⟨Hha2, Hqa2⟩
  ihave Hw2' := (src_split (F := F) c X (Ring.sl 4 (t.val + 2)) 1 (Ring.bk 8 (t.val + 2))).1 $$ Hw2
  icases Hw2' with ⟨Hhb2, Hqb2⟩
  ihave Hn3' := (slot_halves (F := F) c (Ring.sl 4 (t.val + 3)) g3).1 $$ Hn3
  icases Hn3' with ⟨Hna3, Hnb3⟩
  ihave Hv3' := (src_split (F := F) c X (Ring.sl 4 (t.val + 3)) 0 (Ring.bk 8 (t.val + 3))).1 $$ Hv3
  icases Hv3' with ⟨Hha3, Hqa3⟩
  ihave Hw3' := (src_split (F := F) c X (Ring.sl 4 (t.val + 3)) 1 (Ring.bk 8 (t.val + 3))).1 $$ Hw3
  icases Hw3' with ⟨Hhb3, Hqb3⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  ihave Hs := (slot_landed (F := F) c X (Ring.sl 4 t.val) (Ring.bk 8 t.val) g0 g0) $$ [Hna0 Hnb0]
  · isplitl [Hna0]; · iexact Hna0
    iexact Hnb0
  sl_exec (disch := first | sl_exact hc0 | sl_exact hc1)
  sl_step
  iapply Hk
  isplitl [H0]; · iexists _; isplitr; swap; · iexact H0
                  ipureintro; exact harg2.read_unread _
  isplitl [H1]; · iexists _; isplitr; swap; · iexact H1
                  ipureintro; exact harg3.read_unread _
  isplitl [H2]; · iexists _; isplitr; swap; · iexact H2
                  ipureintro; exact harg4.read_unread _
  isplitl [H3]; · iexists _; isplitr; swap; · iexact H3
                  ipureintro; exact harg5.read_unread _
  isplitl [H4]; · iexists _; isplitr; swap; · iexact H4
                  ipureintro; exact harg6.read_unread _
  isplitl [H5]; · iexists _; isplitr; swap; · iexact H5
                  ipureintro; exact harg7.read_unread _
  isplitl [H6]; · iexists _; isplitr; swap; · iexact H6
                  ipureintro; exact harg8.read_unread _
  isplitl [H7]; · iexists _; isplitr; swap; · iexact H7
                  ipureintro; exact harg9.read_unread _
  isplitl [H8]; · iexists _; isplitr; swap; · iexact H8
                  ipureintro; exact harg10.read_unread _
  isplitl [H9]; · iexists _; isplitr; swap; · iexact H9
                  ipureintro
                  refine (store_full _ _ _ _ _).trans (pay1_congr ?_ ((load_read _ _ _).trans ((store_full _ _ _ _ _).trans (fold_bias harg2 harg3 harg4 x0 x1 x2 _ _ _))) (load_full harg5 x3 _) (load_full harg6 x4 _) (load_full harg7 x5 _) (load_full harg8 x6 _)
                    (load_full harg9 x7 _) (load_full harg10 x8 _))
                  exact congrArg₂ k0_pay6 (load_slot c X (Ring.bk 8 t.val) (Ring.sl 4 t.val) (off_wait t).2.2.2.2.2.2 _)
                    ((load_read _ _ _).trans (fold_stores _ _ harg3 x1 _ _ _ _ _))
  isplitl [HS1]; · iexists _; isplitr; swap; · iexact HS1
                   ipureintro; exact fold_stores _ _ harg3 x1 _ _ _ _ _
  isplitl [HS2]; · iexists _; isplitr; swap; · iexact HS2
                   ipureintro; exact (store_full _ _ _ _ _).trans (fold_bias harg2 harg3 harg4 x0 x1 x2 _ _ _)
  isplitl [Ha0 Hb0 Hs Hha0 Hqa0 Hhb0 Hqb0]
  · isplitl [Ha0 Hb0]
    · isplitl [Ha0]; · iexact Ha0
      iexact Hb0
    iexists _; isplitl [Hs]; · iexact Hs
    isplitl [Hha0 Hqa0]
    · iapply (src_split (F := F) c X (Ring.sl 4 t.val) 0 (Ring.bk 8 t.val)).2; isplitl [Hha0]; · iexact Hha0
      iexact Hqa0
    · iapply (src_split (F := F) c X (Ring.sl 4 t.val) 1 (Ring.bk 8 t.val)).2; isplitl [Hhb0]; · iexact Hhb0
      iexact Hqb0
  isplitl [Ha1 Hqa1 Hb1 Hqb1]
  · iexists _; isplitl [Ha1 Hqa1]
    · isplitl [Ha1]; · iexact Ha1
      iexact Hqa1
    · isplitl [Hb1]; · iexact Hb1
      iexact Hqb1
  isplitl [Ha2 Hqa2 Hb2 Hqb2]
  · iexists _; isplitl [Ha2 Hqa2]
    · isplitl [Ha2]; · iexact Ha2
      iexact Hqa2
    · isplitl [Hb2]; · iexact Hb2
      iexact Hqb2
  isplitl [Ha3 Hqa3 Hb3 Hqb3]
  · iexists _; isplitl [Ha3 Hqa3]
    · isplitl [Ha3]; · iexact Ha3
      iexact Hqa3
    · isplitl [Hb3]; · iexact Hb3
      iexact Hqb3
  iexists _; iexact HW

end Cert.KernelIdeal.Hand

end
-- ==== Proof.KernelIdeal.RunB.lean ====
/- The body at a point after the first that starts the block three ahead (points 1 to 4). -/
module

public import proofs.«01_k».proof.Proof.KernelIdeal.Loads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
theorem run_mid (c : Dev nD) (t : Fin cfg0.N) (arg2 : Memref sig .tc .vmem S1026x32 .f32) (harg2 : arg2.IsWhole) (arg3 : Memref sig .tc .vmem S1396x128 .f32) (harg3 : arg3.IsWhole) (arg4 : Memref sig .tc .vmem S128 .f32) (harg4 : arg4.IsWhole) (arg5 : Memref sig .tc .vmem S128x256 .f32) (harg5 : arg5.IsWhole) (arg6 : Memref sig .tc .vmem S256 .f32) (harg6 : arg6.IsWhole) (arg7 : Memref sig .tc .vmem S256x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S2048 .f32) (harg11 : arg11.IsWhole) (arg13 : Memref sig .tc .vmem S1024x128 .f32) (harg13 : arg13.IsWhole) (arg14 : Memref sig .tc .vmem S1x128 .f32) (harg14 : arg14.IsWhole) (hc0 : ¬first (grid0.coords t)) (hc1 : more (grid0.coords t))
    (x3 : Vec F S128x256 .f32) (x4 : Vec F S256 .f32) (x5 : Vec F S256x128 .f32) (x6 : Vec F S128 .f32) (x7 : Vec F S128x1 .f32) (x8 : Vec F S1 .f32) (s1 : Vec F S1024x128 .f32) (s2 : Vec F S1x128 .f32) (X : HB (F := F) c xhbm)
    (W : Waits sig Unit) (K : PUnit → sProp 𝕄) :
    iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg13 fullShare s1 ∗ owns (c : Thread nD τ) arg14 fullShare s2
        ∗ Ring.inflight (flightW c X) (Ring.sl 4 t.val) (Ring.bk 8 t.val) ∗ Ring.free (cellP c) (slotW c X) (Ring.sl 4 (t.val + 3)) ∗ owes (c : Thread nD τ) 0 W
        ∗ (iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlk c X (Ring.bk 8 t.val) s1 s2 x3 x4 x5 x6 x7 x8) ∗ owns (c : Thread nD τ) arg13 fullShare s1 ∗ owns (c : Thread nD τ) arg14 fullShare s2
            ∗ Ring.free (cellP c) (slotW c X) (Ring.sl 4 t.val) ∗ Ring.inflight (flightW c X) (Ring.sl 4 (t.val + 3)) (Ring.bk 8 (t.val + 3)) ∗ (∃ W', owes (c : Thread nD τ) 0 W')) -∗ K ⟨⟩))
      ⊢ wp frame (wpE (defs₀ (F := F)) Variants.none c none) Set.univ (cc0__mlp_kernel (grid0.coords t) (Memref.whole main_arg0) (Memref.isWhole_whole _) arg2 harg2 arg3 harg3 arg4 harg4 arg5 harg5 arg6 harg6 arg7 harg7 arg8 harg8 arg9 harg9 arg10 harg10 arg11 harg11 xbuf (Memref.isWhole_whole _) arg13 harg13 arg14 harg14 cc0_scratch3) K := by
  haveI : Fact (¬first (grid0.coords t)) := ⟨hc0⟩
  haveI : Fact (more (grid0.coords t)) := ⟨hc1⟩
  simp only [cc0__mlp_kernel_eq_skeleton]; unfold cc0__mlp_kernel_skel
  simp only [k0_part3_eq_skeleton, k0_part1_eq_skeleton, k0_part2_eq_skeleton]
  unfold owns Ring.free Ring.inflight
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs1, %hs1, HS1⟩, ⟨%fs2, %hs2, HS2⟩, ⟨%fl, ⟨Hf0, Hr0⟩, Hf1, Hr1⟩, ⟨⟨Hc0, Hc1⟩, ⟨%fn, Hn, Hw0, Hw1⟩⟩, HW, Hk⟩
  ihave Hn' := (slot_halves (F := F) c (Ring.sl 4 (t.val + 3)) fn).1 $$ Hn
  icases Hn' with ⟨Hn0, Hn1⟩
  ihave Hw0' := (src_split (F := F) c X (Ring.sl 4 (t.val + 3)) 0 (Ring.bk 8 (t.val + 3))).1 $$ Hw0
  icases Hw0' with ⟨Hh0, Hq0⟩
  ihave Hw1' := (src_split (F := F) c X (Ring.sl 4 (t.val + 3)) 1 (Ring.bk 8 (t.val + 3))).1 $$ Hw1
  icases Hw1' with ⟨Hh1, Hq1⟩
  obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hs1; obtain rfl := harg14.eq_unread hs2
  sl_exec (disch := first | sl_exact hc0 | sl_exact hc1)
  ihave Hs := (slot_landed (F := F) c X (Ring.sl 4 t.val) (Ring.bk 8 t.val) fl fl) $$ [Hf0_dst Hf1_dst]
  · isplitl [Hf0_dst]; · iexact Hf0_dst
    iexact Hf1_dst
  sl_exec (disch := first | sl_exact hc0 | sl_exact hc1)
  sl_step
  iapply Hk
  isplitl [H3]; · iexists _; isplitr; swap; · iexact H3
                  ipureintro; exact harg5.read_unread _
  isplitl [H4]; · iexists _; isplitr; swap; · iexact H4
                  ipureintro; exact harg6.read_unread _
  isplitl [H5]; · iexists _; isplitr; swap; · iexact H5
                  ipureintro; exact harg7.read_unread _
  isplitl [H6]; · iexists _; isplitr; swap; · iexact H6
                  ipureintro; exact harg8.read_unread _
  isplitl [H7]; · iexists _; isplitr; swap; · iexact H7
                  ipureintro; exact harg9.read_unread _
  isplitl [H8]; · iexists _; isplitr; swap; · iexact H8
                  ipureintro; exact harg10.read_unread _
  isplitl [H9]; · iexists _; isplitr; swap; · iexact H9
                  ipureintro
                  refine (store_full _ _ _ _ _).trans (pay1_congr ?_ (load_full harg14 s2 _) (load_full harg5 x3 _) (load_full harg6 x4 _) (load_full harg7 x5 _) (load_full harg8 x6 _) (load_full harg9 x7 _) (load_full harg10 x8 _))
                  exact congrArg₂ k0_pay6 (load_slot c X (Ring.bk 8 t.val) (Ring.sl 4 t.val) (off_wait t).2.2.2.2.2.2 _) (load_full harg13 s1 _)
  isplitl [HS1]; · iexists _; isplitr; swap; · iexact HS1
                   ipureintro; exact harg13.read_unread _
  isplitl [HS2]; · iexists _; isplitr; swap; · iexact HS2
                   ipureintro; exact harg14.read_unread _
  isplitl [Hf0 Hf1 Hs Hf0_src Hr0 Hf1_src Hr1]
  · isplitl [Hf0 Hf1]
    · isplitl [Hf0]; · iexact Hf0
      iexact Hf1
    iexists _; isplitl [Hs]; · iexact Hs
    isplitl [Hf0_src Hr0]
    · iapply (src_split (F := F) c X (Ring.sl 4 t.val) 0 (Ring.bk 8 t.val)).2; isplitl [Hf0_src]; · iexact Hf0_src
      iexact Hr0
    · iapply (src_split (F := F) c X (Ring.sl 4 t.val) 1 (Ring.bk 8 t.val)).2; isplitl [Hf1_src]; · iexact Hf1_src
      iexact Hr1
  isplitl [Hc0 Hq0 Hc1 Hq1]
  · iexists _; isplitl [Hc0 Hq0]
    · isplitl [Hc0]; · iexact Hc0
      iexact Hq0
    · isplitl [Hc1]; · iexact Hc1
      iexact Hq1
  iexists _; iexact HW

end Cert.KernelIdeal.Hand

end
-- ==== Proof.KernelIdeal.RunC.lean ====
/- The body at a point after the first that starts no block (points 5, 6, 7). -/
module

public import proofs.«01_k».proof.Proof.KernelIdeal.Loads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
theorem run_tail (c : Dev nD) (t : Fin cfg0.N) (arg2 : Memref sig .tc .vmem S1026x32 .f32) (harg2 : arg2.IsWhole) (arg3 : Memref sig .tc .vmem S1396x128 .f32) (harg3 : arg3.IsWhole) (arg4 : Memref sig .tc .vmem S128 .f32) (harg4 : arg4.IsWhole) (arg5 : Memref sig .tc .vmem S128x256 .f32) (harg5 : arg5.IsWhole) (arg6 : Memref sig .tc .vmem S256 .f32) (harg6 : arg6.IsWhole) (arg7 : Memref sig .tc .vmem S256x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S2048 .f32) (harg11 : arg11.IsWhole) (arg13 : Memref sig .tc .vmem S1024x128 .f32) (harg13 : arg13.IsWhole) (arg14 : Memref sig .tc .vmem S1x128 .f32) (harg14 : arg14.IsWhole) (hc0 : ¬first (grid0.coords t)) (hc1 : ¬more (grid0.coords t))
    (x3 : Vec F S128x256 .f32) (x4 : Vec F S256 .f32) (x5 : Vec F S256x128 .f32) (x6 : Vec F S128 .f32) (x7 : Vec F S128x1 .f32) (x8 : Vec F S1 .f32) (s1 : Vec F S1024x128 .f32) (s2 : Vec F S1x128 .f32) (X : HB (F := F) c xhbm)
    (W : Waits sig Unit) (K : PUnit → sProp 𝕄) :
    iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg13 fullShare s1 ∗ owns (c : Thread nD τ) arg14 fullShare s2
        ∗ Ring.inflight (flightW c X) (Ring.sl 4 t.val) (Ring.bk 8 t.val) ∗ owes (c : Thread nD τ) 0 W
        ∗ (iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlk c X (Ring.bk 8 t.val) s1 s2 x3 x4 x5 x6 x7 x8) ∗ owns (c : Thread nD τ) arg13 fullShare s1 ∗ owns (c : Thread nD τ) arg14 fullShare s2
            ∗ Ring.free (cellP c) (slotW c X) (Ring.sl 4 t.val) ∗ (∃ W', owes (c : Thread nD τ) 0 W')) -∗ K ⟨⟩))
      ⊢ wp frame (wpE (defs₀ (F := F)) Variants.none c none) Set.univ (cc0__mlp_kernel (grid0.coords t) (Memref.whole main_arg0) (Memref.isWhole_whole _) arg2 harg2 arg3 harg3 arg4 harg4 arg5 harg5 arg6 harg6 arg7 harg7 arg8 harg8 arg9 harg9 arg10 harg10 arg11 harg11 xbuf (Memref.isWhole_whole _) arg13 harg13 arg14 harg14 cc0_scratch3) K := by
  haveI : Fact (¬first (grid0.coords t)) := ⟨hc0⟩
  haveI : Fact (¬more (grid0.coords t)) := ⟨hc1⟩
  simp only [cc0__mlp_kernel_eq_skeleton]; unfold cc0__mlp_kernel_skel
  simp only [k0_part3_eq_skeleton, k0_part1_eq_skeleton, k0_part2_eq_skeleton]
  unfold owns Ring.free Ring.inflight
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs1, %hs1, HS1⟩, ⟨%fs2, %hs2, HS2⟩, ⟨%fl, ⟨Hf0, Hr0⟩, Hf1, Hr1⟩, HW, Hk⟩
  obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hs1; obtain rfl := harg14.eq_unread hs2
  sl_exec (disch := first | sl_exact hc0 | sl_exact hc1)
  ihave Hs := (slot_landed (F := F) c X (Ring.sl 4 t.val) (Ring.bk 8 t.val) fl fl) $$ [Hf0_dst Hf1_dst]
  · isplitl [Hf0_dst]; · iexact Hf0_dst
    iexact Hf1_dst
  sl_exec (disch := first | sl_exact hc0 | sl_exact hc1)
  sl_step
  iapply Hk
  isplitl [H3]; · iexists _; isplitr; swap; · iexact H3
                  ipureintro; exact harg5.read_unread _
  isplitl [H4]; · iexists _; isplitr; swap; · iexact H4
                  ipureintro; exact harg6.read_unread _
  isplitl [H5]; · iexists _; isplitr; swap; · iexact H5
                  ipureintro; exact harg7.read_unread _
  isplitl [H6]; · iexists _; isplitr; swap; · iexact H6
                  ipureintro; exact harg8.read_unread _
  isplitl [H7]; · iexists _; isplitr; swap; · iexact H7
                  ipureintro; exact harg9.read_unread _
  isplitl [H8]; · iexists _; isplitr; swap; · iexact H8
                  ipureintro; exact harg10.read_unread _
  isplitl [H9]; · iexists _; isplitr; swap; · iexact H9
                  ipureintro
                  refine (store_full _ _ _ _ _).trans (pay1_congr ?_ (load_full harg14 s2 _) (load_full harg5 x3 _) (load_full harg6 x4 _) (load_full harg7 x5 _) (load_full harg8 x6 _) (load_full harg9 x7 _) (load_full harg10 x8 _))
                  exact congrArg₂ k0_pay6 (load_slot c X (Ring.bk 8 t.val) (Ring.sl 4 t.val) (off_wait t).2.2.2.2.2.2 _) (load_full harg13 s1 _)
  isplitl [HS1]; · iexists _; isplitr; swap; · iexact HS1
                   ipureintro; exact harg13.read_unread _
  isplitl [HS2]; · iexists _; isplitr; swap; · iexact HS2
                   ipureintro; exact harg14.read_unread _
  isplitl [Hf0 Hf1 Hs Hf0_src Hr0 Hf1_src Hr1]
  · isplitl [Hf0 Hf1]
    · isplitl [Hf0]; · iexact Hf0
      iexact Hf1
    iexists _; isplitl [Hs]; · iexact Hs
    isplitl [Hf0_src Hr0]
    · iapply (src_split (F := F) c X (Ring.sl 4 t.val) 0 (Ring.bk 8 t.val)).2; isplitl [Hf0_src]; · iexact Hf0_src
      iexact Hr0
    · iapply (src_split (F := F) c X (Ring.sl 4 t.val) 1 (Ring.bk 8 t.val)).2; isplitl [Hf1_src]; · iexact Hf1_src
      iexact Hr1
  iexists _; iexact HW

end Cert.KernelIdeal.Hand

end
-- ==== Proof.KernelIdeal.Data.lean ====
/- The proof data of the pipeline: what each window's buffer holds before and after a point, and what the body carries
   from point to point. -/
module

public import proofs.«01_k».proof.Proof.KernelIdeal.Loads
public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays -/

/-- Argument 0 as launched: the operand the body streams. -/
abbrev argX (c : Dev nD) : HB (F := F) c xhbm := m ((c : Thread nD τ).loc main_arg0)
/-- Argument `w + 1` as launched, window `w`'s array. -/
abbrev arg1V (c : Dev nD) : Vec F S1026x32 .f32 := m ((c : Thread nD τ).loc main_arg1)
abbrev arg2V (c : Dev nD) : Vec F S1396x128 .f32 := m ((c : Thread nD τ).loc main_arg2)
abbrev arg3V (c : Dev nD) : Vec F S128 .f32 := m ((c : Thread nD τ).loc main_arg3)
abbrev arg4V (c : Dev nD) : Vec F S128x256 .f32 := m ((c : Thread nD τ).loc main_arg4)
abbrev arg5V (c : Dev nD) : Vec F S256 .f32 := m ((c : Thread nD τ).loc main_arg5)
abbrev arg6V (c : Dev nD) : Vec F S256x128 .f32 := m ((c : Thread nD τ).loc main_arg6)
abbrev arg7V (c : Dev nD) : Vec F S128 .f32 := m ((c : Thread nD τ).loc main_arg7)
abbrev arg8V (c : Dev nD) : Vec F S128x1 .f32 := m ((c : Thread nD τ).loc main_arg8)
abbrev arg9V (c : Dev nD) : Vec F S1 .f32 := m ((c : Thread nD τ).loc main_arg9)

/-! Each input window's one block is its whole array. -/

theorem iblk_0 (c : Dev nD) (t : Fin cfg0.N) : iblk m c 0 t = arg1V m c :=
  funext fun y => congrArg (arg1V m c) (funext fun a => Fin.ext (win0_0.rect_emb_val_of_index_zero t a (by fin_cases a <;> rfl) y))
theorem iblk_1 (c : Dev nD) (t : Fin cfg0.N) : iblk m c 1 t = arg2V m c :=
  funext fun y => congrArg (arg2V m c) (funext fun a => Fin.ext (win0_1.rect_emb_val_of_index_zero t a (by fin_cases a <;> rfl) y))
theorem iblk_2 (c : Dev nD) (t : Fin cfg0.N) : iblk m c 2 t = arg3V m c :=
  funext fun y => congrArg (arg3V m c) (funext fun a => Fin.ext (win0_2.rect_emb_val_of_index_zero t a (by fin_cases a <;> rfl) y))
theorem iblk_3 (c : Dev nD) (t : Fin cfg0.N) : iblk m c 3 t = arg4V m c :=
  funext fun y => congrArg (arg4V m c) (funext fun a => Fin.ext (win0_3.rect_emb_val_of_index_zero t a (by fin_cases a <;> rfl) y))
theorem iblk_4 (c : Dev nD) (t : Fin cfg0.N) : iblk m c 4 t = arg5V m c :=
  funext fun y => congrArg (arg5V m c) (funext fun a => Fin.ext (win0_4.rect_emb_val_of_index_zero t a (by fin_cases a <;> rfl) y))
theorem iblk_5 (c : Dev nD) (t : Fin cfg0.N) : iblk m c 5 t = arg6V m c :=
  funext fun y => congrArg (arg6V m c) (funext fun a => Fin.ext (win0_5.rect_emb_val_of_index_zero t a (by fin_cases a <;> rfl) y))
theorem iblk_6 (c : Dev nD) (t : Fin cfg0.N) : iblk m c 6 t = arg7V m c :=
  funext fun y => congrArg (arg7V m c) (funext fun a => Fin.ext (win0_6.rect_emb_val_of_index_zero t a (by fin_cases a <;> rfl) y))
theorem iblk_7 (c : Dev nD) (t : Fin cfg0.N) : iblk m c 7 t = arg8V m c :=
  funext fun y => congrArg (arg8V m c) (funext fun a => Fin.ext (win0_7.rect_emb_val_of_index_zero t a (by fin_cases a <;> rfl) y))
theorem iblk_8 (c : Dev nD) (t : Fin cfg0.N) : iblk m c 8 t = arg9V m c :=
  funext fun y => congrArg (arg9V m c) (funext fun a => Fin.ext (win0_8.rect_emb_val_of_index_zero t a (by fin_cases a <;> rfl) y))

/-! ## What the points leave -/

/-- The folded weights and the folded bias that the first point leaves in the scratch. -/
abbrev wts (c : Dev nD) : Vec F S1024x128 .f32 := foldW (arg2V m c)
abbrev bias (c : Dev nD) : Vec F S1x128 .f32 := foldC (arg1V m c) (arg2V m c) (arg3V m c)

/-- What point `t` leaves in the output's buffer. -/
abbrev outAt (c : Dev nD) (t : ℕ) : FVec F S2048 .f32 :=
  outBlk c (argX m c) (Ring.bk 8 t) (wts m c) (bias m c) (arg4V m c) (arg5V m c) (arg6V m c) (arg7V m c) (arg8V m c) (arg9V m c)

/-- What the scratch holds before point `k`: anything before the first point, the folded weights and bias after it. -/
def carry (c : Dev nD) (k : ℕ) : sProp 𝕄 :=
  if k = 0 then iprop((∃ d, owns (c : Thread nD τ) wbuf fullShare d) ∗ (∃ d, owns (c : Thread nD τ) cbuf fullShare d))
  else iprop(owns (c : Thread nD τ) wbuf fullShare (wts m c) ∗ owns (c : Thread nD τ) cbuf fullShare (bias m c))

/-- The invariant before point `k`: the scratch, the generator register at some state, and the ring. -/
def Inv (c : Dev nD) (k : ℕ) : sProp 𝕄 := iprop(carry m c k ∗ (∃ r, prngReg c r) ∗ ringAt c (argX m c) k)

/-- The proof data on core `c`: an input's buffer keeps its block, the output's holds `outAt`; nothing is owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t.val
  Φ t := Inv m c t.val
  q _ := fullShare
  owed _ := 0

theorem A_eq (c : Dev nD) (w : Fin cfg0.W) : (dats m 0 c).A w = V m c (Pipeline.arrRef spec0 w) := by dsimp only [dats]
theorem Inv_castSucc (c : Dev nD) (t : Fin cfg0.N) : (dats m 0 c).Φ t.castSucc = Inv m c t.val := by
  dsimp only [dats]; simp only [Fin.coe_castSucc]
theorem Inv_succ (c : Dev nD) (t : Fin cfg0.N) : (dats m 0 c).Φ t.succ = Inv m c (t.val + 1) := by
  dsimp only [dats]; simp only [Fin.val_succ]

/-! After the body an input's buffer holds its array, and so it does before. -/

theorem after_0 (c : Dev nD) (t : Fin cfg0.N) : (dats m 0 c).after 0 t = arg1V m c :=
  (show (dats m 0 c).after 0 t = iblk m c 0 t by dsimp only [dats]).trans (iblk_0 m c t)
theorem after_1 (c : Dev nD) (t : Fin cfg0.N) : (dats m 0 c).after 1 t = arg2V m c :=
  (show (dats m 0 c).after 1 t = iblk m c 1 t by dsimp only [dats]).trans (iblk_1 m c t)
theorem after_2 (c : Dev nD) (t : Fin cfg0.N) : (dats m 0 c).after 2 t = arg3V m c :=
  (show (dats m 0 c).after 2 t = iblk m c 2 t by dsimp only [dats]).trans (iblk_2 m c t)
theorem after_3 (c : Dev nD) (t : Fin cfg0.N) : (dats m 0 c).after 3 t = arg4V m c :=
  (show (dats m 0 c).after 3 t = iblk m c 3 t by dsimp only [dats]).trans (iblk_3 m c t)
theorem after_4 (c : Dev nD) (t : Fin cfg0.N) : (dats m 0 c).after 4 t = arg5V m c :=
  (show (dats m 0 c).after 4 t = iblk m c 4 t by dsimp only [dats]).trans (iblk_4 m c t)
theorem after_5 (c : Dev nD) (t : Fin cfg0.N) : (dats m 0 c).after 5 t = arg6V m c :=
  (show (dats m 0 c).after 5 t = iblk m c 5 t by dsimp only [dats]).trans (iblk_5 m c t)
theorem after_6 (c : Dev nD) (t : Fin cfg0.N) : (dats m 0 c).after 6 t = arg7V m c :=
  (show (dats m 0 c).after 6 t = iblk m c 6 t by dsimp only [dats]).trans (iblk_6 m c t)
theorem after_7 (c : Dev nD) (t : Fin cfg0.N) : (dats m 0 c).after 7 t = arg8V m c :=
  (show (dats m 0 c).after 7 t = iblk m c 7 t by dsimp only [dats]).trans (iblk_7 m c t)
theorem after_8 (c : Dev nD) (t : Fin cfg0.N) : (dats m 0 c).after 8 t = arg9V m c :=
  (show (dats m 0 c).after 8 t = iblk m c 8 t by dsimp only [dats]).trans (iblk_8 m c t)
theorem after_9 (c : Dev nD) (t : Fin cfg0.N) : (dats m 0 c).after 9 t = outAt m c t.val := by dsimp only [dats]

theorem before_0 (c : Dev nD) (t : Fin cfg0.N) (d) : (dats m 0 c).before 0 t d = arg1V m c :=
  ((dats m 0 c).before_in_eq_fetched 0 rfl (fun _ => rfl) (fun _ _ _ => rfl) (fun _ => rfl) t d).trans (iblk_0 m c t)
theorem before_1 (c : Dev nD) (t : Fin cfg0.N) (d) : (dats m 0 c).before 1 t d = arg2V m c :=
  ((dats m 0 c).before_in_eq_fetched 1 rfl (fun _ => rfl) (fun _ _ _ => rfl) (fun _ => rfl) t d).trans (iblk_1 m c t)
theorem before_2 (c : Dev nD) (t : Fin cfg0.N) (d) : (dats m 0 c).before 2 t d = arg3V m c :=
  ((dats m 0 c).before_in_eq_fetched 2 rfl (fun _ => rfl) (fun _ _ _ => rfl) (fun _ => rfl) t d).trans (iblk_2 m c t)
theorem before_3 (c : Dev nD) (t : Fin cfg0.N) (d) : (dats m 0 c).before 3 t d = arg4V m c :=
  ((dats m 0 c).before_in_eq_fetched 3 rfl (fun _ => rfl) (fun _ _ _ => rfl) (fun _ => rfl) t d).trans (iblk_3 m c t)
theorem before_4 (c : Dev nD) (t : Fin cfg0.N) (d) : (dats m 0 c).before 4 t d = arg5V m c :=
  ((dats m 0 c).before_in_eq_fetched 4 rfl (fun _ => rfl) (fun _ _ _ => rfl) (fun _ => rfl) t d).trans (iblk_4 m c t)
theorem before_5 (c : Dev nD) (t : Fin cfg0.N) (d) : (dats m 0 c).before 5 t d = arg6V m c :=
  ((dats m 0 c).before_in_eq_fetched 5 rfl (fun _ => rfl) (fun _ _ _ => rfl) (fun _ => rfl) t d).trans (iblk_5 m c t)
theorem before_6 (c : Dev nD) (t : Fin cfg0.N) (d) : (dats m 0 c).before 6 t d = arg7V m c :=
  ((dats m 0 c).before_in_eq_fetched 6 rfl (fun _ => rfl) (fun _ _ _ => rfl) (fun _ => rfl) t d).trans (iblk_6 m c t)
theorem before_7 (c : Dev nD) (t : Fin cfg0.N) (d) : (dats m 0 c).before 7 t d = arg8V m c :=
  ((dats m 0 c).before_in_eq_fetched 7 rfl (fun _ => rfl) (fun _ _ _ => rfl) (fun _ => rfl) t d).trans (iblk_7 m c t)
theorem before_8 (c : Dev nD) (t : Fin cfg0.N) (d) : (dats m 0 c).before 8 t d = arg9V m c :=
  ((dats m 0 c).before_in_eq_fetched 8 rfl (fun _ => rfl) (fun _ _ _ => rfl) (fun _ => rfl) t d).trans (iblk_8 m c t)

end Cert.KernelIdeal.Hand

end
-- ==== Proof.KernelIdeal.Body.lean ====
/- The body's triple at every point: by the point's role (the first, one that starts a block, one of the last) the run of
   that role takes the ring's pieces out of the invariant and puts them back. -/
module

public import proofs.«01_k».proof.Proof.KernelIdeal.RunA
public import proofs.«01_k».proof.Proof.KernelIdeal.RunB
public import proofs.«01_k».proof.Proof.KernelIdeal.RunC
public import proofs.«01_k».proof.Proof.KernelIdeal.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Window `w`'s buffer at point `t`. -/
abbrev stg0 (t : Fin cfg0.N) : Memref sig .tc .vmem S1026x32 .f32 := win0_0.stage (cfg0.slots t 0)
abbrev stg1 (t : Fin cfg0.N) : Memref sig .tc .vmem S1396x128 .f32 := win0_1.stage (cfg0.slots t 1)
abbrev stg2 (t : Fin cfg0.N) : Memref sig .tc .vmem S128 .f32 := win0_2.stage (cfg0.slots t 2)
abbrev stg3 (t : Fin cfg0.N) : Memref sig .tc .vmem S128x256 .f32 := win0_3.stage (cfg0.slots t 3)
abbrev stg4 (t : Fin cfg0.N) : Memref sig .tc .vmem S256 .f32 := win0_4.stage (cfg0.slots t 4)
abbrev stg5 (t : Fin cfg0.N) : Memref sig .tc .vmem S256x128 .f32 := win0_5.stage (cfg0.slots t 5)
abbrev stg6 (t : Fin cfg0.N) : Memref sig .tc .vmem S128 .f32 := win0_6.stage (cfg0.slots t 6)
abbrev stg7 (t : Fin cfg0.N) : Memref sig .tc .vmem S128x1 .f32 := win0_7.stage (cfg0.slots t 7)
abbrev stg8 (t : Fin cfg0.N) : Memref sig .tc .vmem S1 .f32 := win0_8.stage (cfg0.slots t 8)
abbrev stg9 (t : Fin cfg0.N) : Memref sig .tc .vmem S2048 .f32 := win0_9.stage (cfg0.slots t 9)

/-- The input windows' buffers at point `t`, each at its array. -/
abbrev inputs (c : Dev nD) (t : Fin cfg0.N) : sProp 𝕄 :=
  iprop(owns (c : Thread nD τ) (stg0 t) fullShare (arg1V m c) ∗ owns (c : Thread nD τ) (stg1 t) fullShare (arg2V m c) ∗ owns (c : Thread nD τ) (stg2 t) fullShare (arg3V m c) ∗ owns (c : Thread nD τ) (stg3 t) fullShare (arg4V m c) ∗ owns (c : Thread nD τ) (stg4 t) fullShare (arg5V m c) ∗ owns (c : Thread nD τ) (stg5 t) fullShare (arg6V m c) ∗ owns (c : Thread nD τ) (stg6 t) fullShare (arg7V m c) ∗ owns (c : Thread nD τ) (stg7 t) fullShare (arg8V m c) ∗ owns (c : Thread nD τ) (stg8 t) fullShare (arg9V m c))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t))

/-- The invariant, the input buffers and what the body owes, with the output's buffer at anything, give the run of any point;
    it hands back the next point's invariant and the output's buffer at the point's block. -/
theorem body_runs (c : Dev nD) (t : Fin cfg0.N) (W : Waits sig Unit) (K : PUnit → sProp 𝕄) :
    iprop(Inv m c t.val ∗ owes (c : Thread nD τ) 0 W ∗ (∃ d, owns (c : Thread nD τ) (stg9 t) fullShare d) ∗ inputs m c t
      ∗ (iprop(Inv m c (t.val + 1) ∗ (∃ W', owes (c : Thread nD τ) 0 W') ∗ owns (c : Thread nD τ) (stg9 t) fullShare (outAt m c t.val) ∗ inputs m c t) -∗ K ⟨⟩))
      ⊢ wp frame (wpE (defs₀ (F := F)) Variants.none c none) Set.univ (bodyAt0 t) K := by
  unfold bodyAt0 Inv carry ringAt
  have hgN : grid0.N = 8 := N_0
  have hN : t.val < 8 := lt_of_lt_of_eq t.isLt (show cfg0.N = 8 from N_0)
  rw [if_neg (show ¬t.val + 1 = 0 by omega)]
  by_cases h0 : t.val = 0
  · have h1 : ¬(1 ≤ t.val ∧ t.val ≤ 4) := by omega
    rw [if_pos h0]
    rw [if_pos h0, if_neg (show ¬t.val + 1 = 0 by omega)]
    rw [Ring.At₀_eq4' _ _ _ t.val h0 (by decide : 4 ≤ 8), Ring.At4_one' _ _ _ _ t.val h0 (by decide : 4 ≤ 8)]
    iintro ⟨⟨⟨HS1, HS2⟩, Hg, ⟨-, Hr0, Hr1, Hr2, Hr3⟩⟩, HW, H9, ⟨H0, H1, H2, H3, H4, H5, H6, H7, H8⟩, Hk⟩
    iapply (run_first c t _ _ _ _ _ _ _ _ _ _ _ _ _ _ _ _ _ _ _ _ _ _ _ _ ((first_iff t).mpr h0) (fun h => h1 ((more_iff t).mp h)) (arg1V m c) (arg2V m c) (arg3V m c) (arg4V m c) (arg5V m c) (arg6V m c) (arg7V m c) (arg8V m c) (arg9V m c) (argX m c) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS1]; · iexact HS1
    isplitl [HS2]; · iexact HS2
    isplitl [Hr0]; · iexact Hr0
    isplitl [Hr1]; · iexact Hr1
    isplitl [Hr2]; · iexact Hr2
    isplitl [Hr3]; · iexact Hr3
    isplitl [HW]; · iexact HW
    iintro ⟨H0, H1, H2, H3, H4, H5, H6, H7, H8, H9, HS1, HS2, Hr0, Hr1, Hr2, Hr3, HW⟩
    iapply Hk
    isplitl [HS1 HS2 Hg Hr1 Hr2 Hr3 Hr0]
    · isplitl [HS1 HS2]
      · isplitl [HS1]; · iexact HS1
        iexact HS2
      isplitl [Hg]; · iexact Hg
      iapply (Ring.with_homes (Idealize.SL.BI.Entails.refl _))
      isplitl [Hr1]; · iexact Hr1
      isplitl [Hr2]; · iexact Hr2
      isplitl [Hr3]; · iexact Hr3
      iexact Hr0
    isplitl [HW]; · iexact HW
    isplitl [H9]; · iexact H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  rw [if_neg h0, if_neg h0, if_neg (show ¬t.val + 1 = 0 by omega)]
  by_cases h1 : 1 ≤ t.val ∧ t.val ≤ 4
  · have hKB : t.val + 3 < 8 := by omega
    rw [Ring.At4_here _ _ _ _ t.val hKB, Ring.At4_next _ _ _ _ t.val hKB, Ring.slotAt4_next0 _ _ _ t.val (by omega), Ring.slotAt4_next1 _ _ _ t.val (by omega), Ring.slotAt4_next2 _ _ _ t.val hKB]
    iintro ⟨⟨⟨HS1, HS2⟩, Hg, ⟨-, Hr0, Hr1, Hr2, Hr3⟩⟩, HW, H9, ⟨H0, H1, H2, H3, H4, H5, H6, H7, H8⟩, Hk⟩
    iapply (run_mid c t _ _ _ _ _ _ _ _ _ _ _ _ _ _ _ _ _ _ _ _ _ _ _ _ (fun h => h0 ((first_iff t).mp h)) ((more_iff t).mpr h1) (arg4V m c) (arg5V m c) (arg6V m c) (arg7V m c) (arg8V m c) (arg9V m c) (wts m c) (bias m c) (argX m c) W _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS1]; · iexact HS1
    isplitl [HS2]; · iexact HS2
    isplitl [Hr0]; · iexact Hr0
    isplitl [Hr3]; · iexact Hr3
    isplitl [HW]; · iexact HW
    iintro ⟨H3, H4, H5, H6, H7, H8, H9, HS1, HS2, Hr0, Hr3, HW⟩
    iapply Hk
    isplitl [HS1 HS2 Hg Hr1 Hr2 Hr3 Hr0]
    · isplitl [HS1 HS2]
      · isplitl [HS1]; · iexact HS1
        iexact HS2
      isplitl [Hg]; · iexact Hg
      iapply (Ring.with_homes (Idealize.SL.BI.Entails.refl _))
      isplitl [Hr1]; · iexact Hr1
      isplitl [Hr2]; · iexact Hr2
      isplitl [Hr3]; · iexact Hr3
      iexact Hr0
    isplitl [HW]; · iexact HW
    isplitl [H9]; · iexact H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hKB : 8 ≤ t.val + 3 := by omega
    rw [Ring.At4_here_tail _ _ _ _ t.val hN, Ring.At4_next_tail _ _ _ _ t.val hKB hN, Ring.slotAt4_tail_role _ _ _ t.val, Ring.slotAt4_tail_role1 _ _ _ t.val]
    iintro ⟨⟨⟨HS1, HS2⟩, Hg, ⟨-, Hr0, Hr1, Hr2, Hr3⟩⟩, HW, H9, ⟨H0, H1, H2, H3, H4, H5, H6, H7, H8⟩, Hk⟩
    iapply (run_tail c t _ _ _ _ _ _ _ _ _ _ _ _ _ _ _ _ _ _ _ _ _ _ _ _ (fun h => h0 ((first_iff t).mp h)) (fun h => h1 ((more_iff t).mp h)) (arg4V m c) (arg5V m c) (arg6V m c) (arg7V m c) (arg8V m c) (arg9V m c) (wts m c) (bias m c) (argX m c) W _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS1]; · iexact HS1
    isplitl [HS2]; · iexact HS2
    isplitl [Hr0]; · iexact Hr0
    isplitl [HW]; · iexact HW
    iintro ⟨H3, H4, H5, H6, H7, H8, H9, HS1, HS2, Hr0, HW⟩
    iapply Hk
    isplitl [HS1 HS2 Hg Hr1 Hr2 Hr3 Hr0]
    · isplitl [HS1 HS2]
      · isplitl [HS1]; · iexact HS1
        iexact HS2
      isplitl [Hg]; · iexact Hg
      iapply (Ring.with_homes (Idealize.SL.BI.Entails.refl _))
      isplitl [Hr1]; · iexact Hr1
      isplitl [Hr2]; · iexact Hr2
      isplitl [Hr3]; · iexact Hr3
      iexact Hr0
    isplitl [HW]; · iexact HW
    isplitl [H9]; · iexact H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The pipeline's obligation at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8]
  rw [after_0, after_1, after_2, after_3, after_4, after_5, after_6, after_7, after_8, after_9]
  rw [Inv_castSucc m c t, Inv_succ m c t]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs m c t W _)
  isplitl [HI]; · iexact HI
  isplitl [HW]; · iexact HW
  isplitl [H9]; · iexists _; iexact H9
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨HI, ⟨%W', HW⟩, H9, ⟨H0, H1, H2, H3, H4, H5, H6, H7, H8⟩⟩
  isplitl [HI]; · iexact HI
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body at that point's buffers. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.KernelIdeal.Frame.lean ====
/- The launch: the region's invariant out of what the launch hands it and back, the run of @main, and the frame claim. -/
module

public import proofs.«01_k».proof.Proof.KernelIdeal.RingEnds
public import proofs.«01_k».proof.Proof.KernelIdeal.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operand that the body streams by itself. -/
def streamed : Finset (Ref sig .tc) := {main_arg0}
theorem streamed_sub : streamed ⊆ Pipeline.restRefs sig spec0 := by decide

/-- What the launch hands the region: the scratch at anything, the generator register, the transfers' semaphores at zero and
    the streamed operand as launched. -/
theorem launch_eq (c : Dev nD) :
    (Pipeline.ΦD osem spec0 streamed (V m) c : sProp 𝕄)
      = iprop(iprop((∃ d, owns (c : Thread nD τ) xbuf fullShare d) ∗ (∃ d, owns (c : Thread nD τ) wbuf fullShare d) ∗ (∃ d, owns (c : Thread nD τ) cbuf fullShare d))
          ∗ (∃ r, prngReg c r) ∗ Pipeline.ownSems0 osem c ∗ hbPt c xhbm (argX m c)) := by
  have hpts : (bigSep streamed (fun b => ((c : Thread nD τ).loc b) ↦{fullShare} V m c b) : sProp 𝕄) = hbPt c xhbm (argX m c) := by
    rw [BI.bigSep_eq_bigSepL_of_eq [main_arg0] (by decide) (by decide)]; rfl
  rw [Pipeline.ΦD_eq, scopedRest0_eq, hpts]; simp only [xbuf, wbuf, cbuf, owns_whole]; try rfl

theorem inv_in (c : Dev nD) : Pipeline.ΦD osem spec0 streamed (V m) c ⊢ (dats m 0 c).Φ 0 := by
  rw [launch_eq, show (dats m 0 c).Φ 0 = Inv m c 0 from rfl]
  unfold Inv carry
  rw [if_pos rfl]
  iintro ⟨⟨HX, HS1, HS2⟩, Hg, Hq, Hh⟩
  isplitl [HS1 HS2]
  · isplitl [HS1]; · iexact HS1
    iexact HS2
  isplitl [Hg]; · iexact Hg
  iapply (ring_in (F := F) c (argX m c))
  isplitl [HX]; · iexact HX
  isplitl [Hq]; · iapply (cells_eq (F := F) c).1; iexact Hq
  iexact Hh

theorem inv_out (c : Dev nD) : (dats m 0 c).Φ (Fin.last cfg0.N) ⊢ Pipeline.ΦD osem spec0 streamed (V m) c := by
  rw [launch_eq, show (dats m 0 c).Φ (Fin.last cfg0.N) = Inv m c grid0.N from rfl, show grid0.N = 8 by rw [N_0]]
  unfold Inv carry
  rw [if_neg (by decide)]
  iintro ⟨⟨HS1, HS2⟩, Hg, HR⟩
  ihave HR' := (ring_out (F := F) c (argX m c)) $$ HR
  icases HR' with ⟨HX, Hq, Hh⟩
  isplitl [HX HS1 HS2]
  · isplitl [HX]; · iexact HX
    isplitl [HS1]; · iexists _; iexact HS1
    iexists _; iexact HS2
  isplitl [Hg]; · iexact Hg
  isplitl [Hq]; · iapply (cells_eq (F := F) c).2; iexact Hq
  iexact Hh

set_option maxHeartbeats 800000 in
theorem main_region : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- Every fair execution of @main ends, with the arrays at what the proof data compute and every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts streamed streamed_sub m ρ main
    (hbody := fun c => (body_obligation m c).loose) (hshare := fun c => (dats m 0 c).share_full fun _ => rfl)
    (howed := fun _ _ => rfl) (V := V m) (hmain := main_region m) (hA := A_eq m)
    (hin := inv_in m) (hout := inv_out m)

/-- A staged input's array ends as launched. -/
theorem input_kept {r} (h : Pipeline.FramePost cfgs (dats (F := F) m) 0 (V m) r) (c : Dev nD) (w : Fin cfg0.W) (hw : (cfg0.win w).isOut = false) :
    r.2.mem (((cfg0.win w).arr.view.loc (c.tc : Thread nD τ))) = V m c (Pipeline.arrRef spec0 w) :=
  ((h c).1 w).trans (((dats m 0 c).arrAt_in w hw _).trans (A_eq m c w))

/-- The frame claim: @main ends, its arguments are as launched and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c).2 main_arg0 (Pipeline.mem_restRefs_of main_arg0 (by decide) (by decide)),
      input_kept m h.1 c 0 rfl,
      input_kept m h.1 c 1 rfl,
      input_kept m h.1 c 2 rfl,
      input_kept m h.1 c 3 rfl,
      input_kept m h.1 c 4 rfl,
      input_kept m h.1 c 5 rfl,
      input_kept m h.1 c 6 rfl,
      input_kept m h.1 c 7 rfl,
      input_kept m h.1 c 8 rfl⟩, h.2⟩) (run_all m ρ)

end Cert.KernelIdeal.Hand

end
-- ==== Proof.Layers.lean ====
/- The network's layers over the extended reals, one row at a time, and what the two programs' spellings of a layer hold
   at a row: a product of matrices plus a bias laid along the rows, on the device and on the host. -/
module

public import Idealize.ShloMosaic.Lib.MatmulPlain
public import Idealize.ShloMosaic.Lib.KernelVsHost
public import Idealize.ShloMosaic.Lib.Pipeline.ValueKit

@[expose] public section

noncomputable section

namespace Cert.Layers

open Idealize.ShloMosaic hiding ix1 ix2
open Idealize.ShloMosaic.ValueIdx
open scoped BigOperators

/-! ## The layers of one row -/

/-- Entry `j` of a dense layer: the row `h` times column `j` of the weights, plus the bias. -/
def dense {K N : ℕ} (h : Fin K → EReal) (W : (⟨2, ![K, N]⟩ : Shape).Idx → EReal) (b : (⟨1, ![N]⟩ : Shape).Idx → EReal) (j : Fin N) : EReal :=
  (∑ k : Fin K, h k * W (ix2 k j)) + b (ix1 j)

/-- The rectified row. -/
def relu {K : ℕ} (h : Fin K → EReal) (k : Fin K) : EReal := max (h k) 0

/-- The network's result on a row whose first layer, before the rectifier, is `p`. -/
def rest {A B C : ℕ} (p : Fin A → EReal) (W2 : (⟨2, ![A, B]⟩ : Shape).Idx → EReal) (b2 : (⟨1, ![B]⟩ : Shape).Idx → EReal)
    (W3 : (⟨2, ![B, C]⟩ : Shape).Idx → EReal) (b3 : (⟨1, ![C]⟩ : Shape).Idx → EReal)
    (W4 : (⟨2, ![C, 1]⟩ : Shape).Idx → EReal) (b4 : (⟨1, ![1]⟩ : Shape).Idx → EReal) : EReal :=
  dense (relu (dense (relu (dense (relu p) W2 b2)) W3 b3)) W4 b4 0

/-! ## A layer as each program writes it -/

section
variable {M K N : ℕ}

/-- A bias laid along every row by the device, read at a row. -/
theorem device_bias (b : (⟨1, ![N]⟩ : Shape).Idx → EReal) (h1 : (⟨1, ![N]⟩ : Shape).ShapeCasts ⟨2, ![1, N]⟩)
    (hb : (⟨2, ![1, N]⟩ : Shape).Broadcasts ⟨2, ![M, N]⟩) (r : Fin M) (j : Fin N) :
    broadcastTo ⟨2, ![M, N]⟩ (shapeCast ⟨2, ![1, N]⟩ b h1) hb (ix2 r j) = b (ix1 j) := by
  rw [broadcastTo_apply _ hb (ix2 r j) (ix2 (0 : Fin 1) j) (by
    intro a
    match a with
    | ⟨0, _⟩ => rfl
    | ⟨1, _⟩ =>
      show j.val = if N = 1 then 0 else j.val
      split
      · have := j.isLt; omega
      · rfl)]
  exact shapeCast_apply b h1 _ (ix1 j) (by
    rw [Shape.rowMajor_val_two, Shape.rowMajor_val_one]; show j.val = 0 * N + j.val; omega)

/-- A one-row matrix laid along every row by the device, read at a row. -/
theorem device_row (b : (⟨2, ![1, N]⟩ : Shape).Idx → EReal)
    (hb : (⟨2, ![1, N]⟩ : Shape).Broadcasts ⟨2, ![M, N]⟩) (r : Fin M) (j : Fin N) :
    broadcastTo ⟨2, ![M, N]⟩ b hb (ix2 r j) = b (ix2 (0 : Fin 1) j) :=
  broadcastTo_apply _ hb (ix2 r j) (ix2 (0 : Fin 1) j) (by
    intro a
    match a with
    | ⟨0, _⟩ => rfl
    | ⟨1, _⟩ =>
      show j.val = if N = 1 then 0 else j.val
      split
      · have := j.isLt; omega
      · rfl)

/-- A bias laid along every row by the host, read at a row. -/
theorem host_bias (b : (⟨1, ![N]⟩ : Shape).Idx → EReal) (h1 : (⟨1, ![N]⟩ : Shape).BroadcastsInDim ⟨2, ![1, N]⟩ ![1])
    (hb : (⟨2, ![1, N]⟩ : Shape).BroadcastsInDim ⟨2, ![M, N]⟩ ![0, 1]) (r : Fin M) (j : Fin N) :
    broadcastInDim ⟨2, ![M, N]⟩ ![0, 1] hb (broadcastInDim ⟨2, ![1, N]⟩ ![1] h1 b) (ix2 r j) = b (ix1 j) := by
  have hj : j.val = if N = 1 then 0 else j.val := by
    split
    · have := j.isLt; omega
    · rfl
  rw [broadcastInDim_apply ![0, 1] hb _ (ix2 r j) (ix2 (0 : Fin 1) j) (by
    intro a
    match a with
    | ⟨0, _⟩ => rfl
    | ⟨1, _⟩ => exact hj)]
  exact broadcastInDim_apply ![1] h1 b (ix2 (0 : Fin 1) j) (ix1 j) (by
    intro a
    match a with
    | ⟨0, _⟩ => exact hj)

/-- The device's product into a zero accumulator, read at an entry. -/
theorem device_dot (A : FVec Ideal ⟨2, ![M, K]⟩ .f32) (W : FVec Ideal ⟨2, ![K, N]⟩ .f32) (r : Fin M) (j : Fin N) :
    matmul (DotDims.plain M K N) none A W (constant ⟨2, ![M, N]⟩ .f32 0x00000000#32) (ix2 r j)
      = ∑ k : Fin K, A (ix2 r k) * W (ix2 k j) := by
  refine (Ideal.matmul_plain_apply none A W _ r j).trans ?_
  show Ideal.ofBits .f32 0x00000000#32 + _ = _
  rw [Ideal.ofBits_zero_f32, zero_add]

/-- The host's product, read at an entry. -/
theorem host_dot (A : FVec Ideal ⟨2, ![M, K]⟩ .f32) (W : FVec Ideal ⟨2, ![K, N]⟩ .f32) (r : Fin M) (j : Fin N) :
    Host.dotGeneral (DotDims.plain M K N) none A W (ix2 r j) = ∑ k : Fin K, A (ix2 r k) * W (ix2 k j) := by
  rw [← matmul_zero_eq_dotGeneral, device_dot]

/-- The device's dense layer at a row, from what its input holds there. -/
theorem device_dense (A : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (hb : (⟨2, ![1, N]⟩ : Shape).Broadcasts ⟨2, ![M, N]⟩)
    (r : Fin M) (h : Fin K → EReal) (hA : ∀ k, A (ix2 r k) = h k) (j : Fin N) :
    addf (matmul (DotDims.plain M K N) none A W (constant ⟨2, ![M, N]⟩ .f32 0x00000000#32))
        (broadcastTo ⟨2, ![M, N]⟩ (shapeCast ⟨2, ![1, N]⟩ b h1) hb) (ix2 r j) = dense h W b j := by
  show _ + _ = _
  rw [device_dot, device_bias]
  simp only [hA]
  rfl

/-- The host's dense layer at a row, from what its input holds there. -/
theorem host_dense (A : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (hb : (⟨2, ![1, N]⟩ : Shape).BroadcastsInDim ⟨2, ![M, N]⟩ ![0, 1])
    (r : Fin M) (h : Fin K → EReal) (hA : ∀ k, A (ix2 r k) = h k) (j : Fin N) :
    addf (Host.dotGeneral (DotDims.plain M K N) none A W)
        (broadcastInDim ⟨2, ![M, N]⟩ ![0, 1] hb (broadcastInDim ⟨2, ![1, N]⟩ ![1] h1 b)) (ix2 r j) = dense h W b j := by
  show _ + _ = _
  rw [host_dot, host_bias]
  simp only [hA]
  rfl

/-- The device's rectifier at an entry. -/
theorem device_relu {s : Shape} (A : FVec Ideal s .f32) (i : s.Idx) (a : EReal) (hA : A i = a) :
    maximumf A (broadcast s (Scalar.ofBits .f32 0x00000000#32 : Ideal .f32)) i = max a 0 := by
  show max (A i) (Ideal.ofBits .f32 0x00000000#32) = _
  rw [Ideal.ofBits_zero_f32, hA]

/-- The host's rectifier at an entry. -/
theorem host_relu {s : Shape} (A : FVec Ideal s .f32) (h : (⟨0, ![]⟩ : Shape).BroadcastsInDim s ![]) (i : s.Idx) (a : EReal) (hA : A i = a) :
    maximumf A (broadcastInDim s ![] h (constant ⟨0, ![]⟩ .f32 0x00000000#32)) i = max a 0 := by
  show max (A i) (Ideal.ofBits .f32 0x00000000#32) = _
  rw [Ideal.ofBits_zero_f32, hA]

/-- A one-column matrix flattened, read at a row. -/
theorem flat_column {α : Type} (A : (⟨2, ![M, 1]⟩ : Shape).Idx → α) (h : (⟨2, ![M, 1]⟩ : Shape).ShapeCasts ⟨1, ![M]⟩) (r : Fin M) :
    shapeCast ⟨1, ![M]⟩ A h (ix1 r) = A (ix2 r (0 : Fin 1)) :=
  shapeCast_apply A h _ _ (by rw [Shape.rowMajor_val_two, Shape.rowMajor_val_one]; show r.val * 1 + 0 = r.val; omega)

end

/-! ## The first layer's sum, split -/

/-- A sum over `n` columns in three consecutive parts. -/
theorem sum_three {a b c n : ℕ} (h : n = a + b + c) (f : Fin n → EReal) :
    ∑ k, f k = ∑ k : Fin a, f ⟨k.val, by have := k.isLt; omega⟩ + ∑ k : Fin b, f ⟨a + k.val, by have := k.isLt; omega⟩
      + ∑ k : Fin c, f ⟨a + b + k.val, by have := k.isLt; omega⟩ := by
  subst h
  rw [Fin.sum_univ_add, Fin.sum_univ_add]
  rfl

/-- **The first layer.** `x` is a row of features, `e` the embedded features, `w` a column of weights over the features
    without the species columns followed by the embedded ones, `fw` the same column over all the columns of `x` with
    zeros at the species columns. The product over the combined row is the product of `x` with `fw` plus the product of
    the embedded features with their weights, the bias added to either. -/
theorem first_layer (x : Fin 1024 → EReal) (e : Fin 384 → EReal) (w : Fin 1396 → EReal) (fw : Fin 1024 → EReal) (cmb : Fin 1396 → EReal) (β : EReal)
    (hfw : ∀ k : Fin 1024, fw k = if h : k.val < 836 then w ⟨k.val, by omega⟩ else if h' : k.val < 848 then 0
      else w ⟨k.val - 12, by have := k.isLt; omega⟩)
    (hc : ∀ k : Fin 1396, cmb k = if h : k.val < 836 then x ⟨k.val, by omega⟩ else if h' : k.val < 1012 then x ⟨k.val + 12, by omega⟩
      else e ⟨k.val - 1012, by have := k.isLt; omega⟩) :
    (∑ k, x k * fw k) + ((∑ k : Fin 384, e k * w ⟨1012 + k.val, by have := k.isLt; omega⟩) + β) = (∑ k, cmb k * w k) + β := by
  rw [sum_three (a := 836) (b := 12) (c := 176) rfl fun k => x k * fw k,
    sum_three (a := 836) (b := 176) (c := 384) rfl fun k => cmb k * w k]
  have z : ∑ k : Fin 12, x ⟨836 + k.val, by have := k.isLt; omega⟩ * fw ⟨836 + k.val, by have := k.isLt; omega⟩ = 0 :=
    Finset.sum_eq_zero fun k _ => by
      have := k.isLt
      rw [hfw, dif_neg (by simp), dif_pos (by show 836 + k.val < 848; omega), mul_zero]
  have a : ∑ k : Fin 836, x ⟨k.val, by have := k.isLt; omega⟩ * fw ⟨k.val, by have := k.isLt; omega⟩
      = ∑ k : Fin 836, cmb ⟨k.val, by have := k.isLt; omega⟩ * w ⟨k.val, by have := k.isLt; omega⟩ :=
    Finset.sum_congr rfl fun k _ => by rw [hfw, hc, dif_pos k.isLt, dif_pos k.isLt]
  have b : ∑ k : Fin 176, x ⟨836 + 12 + k.val, by have := k.isLt; omega⟩ * fw ⟨836 + 12 + k.val, by have := k.isLt; omega⟩
      = ∑ k : Fin 176, cmb ⟨836 + k.val, by have := k.isLt; omega⟩ * w ⟨836 + k.val, by have := k.isLt; omega⟩ :=
    Finset.sum_congr rfl fun k _ => by
      have := k.isLt
      rw [hfw, hc, dif_neg (by show ¬ 836 + 12 + k.val < 836; omega), dif_neg (by show ¬ 836 + 12 + k.val < 848; omega),
        dif_neg (by show ¬ 836 + k.val < 836; omega), dif_pos (by show 836 + k.val < 1012; omega)]
      congr 3 <;> (dsimp only; omega)
  have d : ∑ k : Fin 384, e k * w ⟨1012 + k.val, by have := k.isLt; omega⟩
      = ∑ k : Fin 384, cmb ⟨836 + 176 + k.val, by have := k.isLt; omega⟩ * w ⟨836 + 176 + k.val, by have := k.isLt; omega⟩ :=
    Finset.sum_congr rfl fun k _ => by
      rw [hc, dif_neg (by show ¬ 836 + 176 + k.val < 836; omega), dif_neg (by show ¬ 836 + 176 + k.val < 1012; omega)]
      congr 2
      apply Fin.ext
      dsimp only
      omega
  rw [z, a, b, d, add_zero]
  ac_rfl

end Cert.Layers

end
-- ==== Proof.KernelIdeal.Array.lean ====
/- What the kernel's result array holds over the extended reals: at row `i`, the network's last layers on the first
   layer's row `i`, the first layer spelt with the folded weights and the folded bias. -/
module

public import proofs.«01_k».proof.Proof.KernelIdeal.Frame
public import proofs.«01_k».proof.Proof.Layers

@[expose] public section

set_option maxRecDepth 16384

noncomputable section

namespace Cert.KernelIdeal.Hand

open Cert.KernelIdeal Cert.KernelIdeal.Gen Cert.Layers
open Idealize.ShloMosaic hiding ix1 ix2 ix3
open Idealize.ShloMosaic.TcCoe Idealize.ShloMosaic.ValueIdx
open Idealize.SL.Sem
open scoped BigOperators

/-! ## One block -/

/-- What the body stores at a row of a block, from what the first product holds there. -/
theorem pay1_row (A : FVec Ideal S2048x128 .f32) (s2 : Vec Ideal S1x128 .f32) (x3 : Vec Ideal S128x256 .f32) (x4 : Vec Ideal S256 .f32)
    (x5 : Vec Ideal S256x128 .f32) (x6 : Vec Ideal S128 .f32) (x7 : Vec Ideal S128x1 .f32) (x8 : Vec Ideal S1 .f32)
    (y : Fin 2048) (a : Fin 128 → EReal) (hA : ∀ j, A (ix2 y j) = a j) :
    k0_pay1 A s2 x3 x4 x5 x6 x7 x8 (ix1 y) = rest (fun j => a j + s2 (ix2 (0 : Fin 1) j)) x3 x4 x5 x6 x7 x8 := by
  unfold k0_pay1
  refine (flat_column _ _ y).trans ?_
  refine device_dense _ x7 x8 _ _ y (relu _) (fun k => device_relu _ _ _ ?_) 0
  refine device_dense _ x5 x6 _ _ y (relu _) (fun k => device_relu _ _ _ ?_) k
  refine device_dense _ x3 x4 _ _ y (relu _) (fun k => device_relu _ _ _ ?_) k
  show A (ix2 y k) + _ = _
  rw [hA, device_row]

/-- The first product at an entry: the block's row times a column of the folded weights. -/
theorem pay6_entry (c : Dev nD) (X : Vec Ideal S16384x1024 .f32) (b : Fin 8) (W : Vec Ideal S1024x128 .f32) (y : Fin 2048) (j : Fin 128) :
    k0_pay6 (xblk c X b) W (ix2 y j)
      = ∑ k : Fin 1024, X (ix2 (⟨2048 * b.val + y.val, by have := b.isLt; have := y.isLt; omega⟩ : Fin 16384) k) * W (ix2 k j) := by
  unfold k0_pay6
  refine (device_dot _ W y j).trans (Finset.sum_congr rfl fun k _ => ?_)
  refine congrArg (· * W (ix2 k j)) ?_
  exact shapeCast_apply (xblk c X b) shapeCasts_S1x2048x1024_S2048x1024 (ix2 y k) (ix3 (0 : Fin 1) y k) (by
    rw [Shape.rowMajor_val_three, Shape.rowMajor_val_two]
    show (0 * 2048 + y.val) * 1024 + k.val = y.val * 1024 + k.val
    omega)

/-- The folded bias: the embedding's row 0, repeated for each species column, times the last rows of the weights, plus the bias. -/
theorem foldC_entry (x0 : Vec Ideal S1026x32 .f32) (x1 : Vec Ideal S1396x128 .f32) (x2 : Vec Ideal S128 .f32) (j : Fin 128) :
    foldC x0 x1 x2 (ix2 (0 : Fin 1) j)
      = (∑ k : Fin 384, x0 (ix2 (⟨0, by decide⟩ : Fin 1026) (⟨k.val % 32, by omega⟩ : Fin 32))
          * x1 (ix2 (⟨1012 + k.val, by have := k.isLt; omega⟩ : Fin 1396) j)) + x2 (ix1 j) := by
  unfold foldC k0_pay5
  rw [shapeCast_self]
  refine congrArg₂ (· + ·) ((device_dot _ _ 0 j).trans (Finset.sum_congr rfl fun k _ => ?_)) ?_
  · refine congrArg (· * _) ?_
    exact concatenate_replicate_apply (t := S1x384) (s₁ := S1x32) 1 12 (embRow x0) _ rfl (ix2 (0 : Fin 1) k)
      (ix2 (0 : Fin 1) (⟨k.val % 32, by omega⟩ : Fin 32)) rfl (fun b hb => by
        match b with
        | ⟨0, _⟩ => rfl
        | ⟨1, _⟩ => exact absurd rfl hb)
  · exact shapeCast_apply x2 _ _ (ix1 j) (by
      rw [Shape.rowMajor_val_two, Shape.rowMajor_val_one]; show j.val = 0 * 128 + j.val; omega)

/-! ## The array -/

variable (m : (ℓ : Loc nD τ sig) → Buf (Elt Ideal) ℓ) (ρ : Dev nD → PrngReg)

/-- Argument 0 as launched, as a plain array. -/
abbrev arg0V (c : Dev nD) : Vec Ideal S16384x1024 .f32 := argX m c

/-- The first layer's row `i` before the rectifier, as the kernel computes it. -/
def firstRow (c : Dev nD) (i : Fin 16384) (j : Fin 128) : EReal :=
  (∑ k : Fin 1024, arg0V m c (ix2 i k) * wts m c (ix2 k j)) + bias m c (ix2 (0 : Fin 1) j)

/-- The result array. -/
def result (c : Dev nD) (i : S16384.Idx) : EReal :=
  rest (firstRow m c (i 0)) (arg4V m c) (arg5V m c) (arg6V m c) (arg7V m c) (arg8V m c) (arg9V m c)

/-- What a point leaves in the output's buffer is the result array at that block's rows. -/
theorem outAt_row (c : Dev nD) (t : ℕ) (ht : t < 8) (y : Fin 2048) :
    outAt m c t (ix1 y) = result m c (ix1 (⟨2048 * t + y.val, by have := y.isLt; omega⟩ : Fin 16384)) := by
  have hb : Ring.bk 8 t = ⟨t, ht⟩ := Fin.ext (Nat.mod_eq_of_lt ht)
  unfold outAt outBlk
  rw [hb, pay1_row _ _ _ _ _ _ _ _ y _ fun j => pay6_entry c (arg0V m c) ⟨t, ht⟩ (wts m c) y j]
  rfl

/-- Point `t` writes block `t` of the output. -/
theorem index_out : ∀ t : Fin grid0.N, win0_9.index t 0 = t.val := by decide +kernel

/-- After the last point the output's array is the result array. -/
theorem array_eq (c : Dev nD) : (dats m 0 c).arrAt 9 cfg0.N = result m c := by
  refine (dats m 0 c).arrAt_eq_of_covers 9 _ (by decide +kernel) fun t hf y => ?_
  blk_simp
  rw [after_9]
  refine (congrArg (outAt m c t.val) (eq_ix1 (n := 2048) y)).trans ((outAt_row m c t.val t.isLt (y 0)).trans ?_)
  refine congrArg (result m c) (funext fun a => Fin.ext ?_)
  match a with
  | ⟨0, _⟩ =>
    refine Eq.trans ?_ (win0_9.rect_emb_val t y 0).symm
    rw [index_out]
    show 2048 * t.val + (y 0).val = t.val * 2048 + (y 0).val
    omega

/-- The kernel's run: the result array, the arguments as launched. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).1 9).trans (array_eq m c),
      (h.1 c).2 main_arg0 (Pipeline.mem_restRefs_of main_arg0 (by decide) (by decide)),
      input_kept m h.1 c 0 rfl, input_kept m h.1 c 1 rfl, input_kept m h.1 c 2 rfl, input_kept m h.1 c 3 rfl,
      input_kept m h.1 c 4 rfl, input_kept m h.1 c 5 rfl, input_kept m h.1 c 6 rfl, input_kept m h.1 c 7 rfl,
      input_kept m h.1 c 8 rfl⟩) (run_all m ρ)

end Cert.KernelIdeal.Hand

end
-- ==== Proof.Reference.lean ====
/- What the reference's result holds over the extended reals when every species entry lies strictly between -1 and 1: every
   species id is 0, so each species column is embedded as row 0 of the table, and row `r` of the result is the network's
   last layers on the first layer's row `r`. -/
module

public import proofs.«01_k».proof.Proof.Gen.ReferenceIdeal.Run
public import proofs.«01_k».proof.Proof.Gen.Pre_species_zero
public import proofs.«01_k».proof.Proof.Layers
public import Idealize.ShloMosaic.Lib.ReduceAll
public import Idealize.ShloMosaic.Lib.IdealHost

@[expose] public section

set_option maxRecDepth 16384

noncomputable section

namespace Cert.ReferenceIdeal.Hand

open Cert.ReferenceIdeal Cert.ReferenceIdeal.Gen Cert.Layers
open Idealize.ShloMosaic hiding ix1 ix2 ix3
open Idealize.ShloMosaic.TcCoe Idealize.ShloMosaic.ValueIdx
open Idealize.SL.Sem
open scoped BigOperators

/-! ## Species ids -/

/-- The word of -1. -/
theorem ofBits_neg_one : Ideal.ofBits .f32 0xBF800000#32 = -1 := by
  simp [Ideal.ofBits, Ideal.ieee, -EReal.coe_mul, -EReal.coe_neg]; norm_num

/-- A value strictly between -1 and 1 converts to the integer 0. -/
theorem fptosi_small (x : EReal) (h0 : -1 < x) (h1 : x < 1) : Ideal.fptosi 32 x = 0#32 := by
  induction x using EReal.rec with
  | bot => exact absurd h0 (not_lt_bot)
  | top => exact absurd h1 (not_top_lt)
  | coe r =>
    have a0 : (-1 : ℝ) < r := by
      have h : ((-1 : ℝ) : EReal) < (r : EReal) := by rw [EReal.coe_neg, EReal.coe_one]; exact h0
      exact EReal.coe_lt_coe_iff.1 h
    have a1 : r < 1 := by exact_mod_cast h1
    have e : (if 0 ≤ r then ⌊r⌋ else ⌈r⌉) = 0 := by
      split
      · exact Int.floor_eq_zero_iff.2 ⟨by assumption, a1⟩
      · refine Int.ceil_eq_iff.2 ⟨?_, ?_⟩
        · push_cast; linarith
        · push_cast; linarith
    rw [Ideal.fptosi, Ideal.toIntClamped_coe, e]
    rfl

/-- The species columns. -/
abbrev species (X : FVec Ideal S16384x1024 .f32) : FVec Ideal S16384x12 .f32 :=
  extractStridedSlice S16384x12 ![0, 836] X slices_S16384x1024_S16384x12_0_836

/-- Under the precondition every species entry lies strictly between -1 and 1, so its id is 0. -/
theorem ids_of_pre (X : FVec Ideal S16384x1024 .f32) (x1 x2 x3 x4 x5 x6 x7 x8 x9)
    (h : Cert.Pre_species_zero.fn (F := Ideal) X x1 x2 x3 x4 x5 x6 x7 x8 x9 = (fun _ => 1#1)) :
    (fptosi 32 (species X) : IVec S16384x12 32) = fun _ => 0#32 := by
  funext i
  haveI : Subsingleton Cert.Pre_species_zero.S_.Idx := ⟨fun a b => funext fun k => k.elim0⟩
  have hi := Host.reduce_andi_all _ _ _ _ _ (congrFun h (fun k => k.elim0)) i
  obtain ⟨hl, hr⟩ := IntOp.andi_eq_one.1 hi
  have hl' : BitVec.ofBool (decide (Ideal.ofBits .f32 0xBF800000#32 < species X i)) = 1#1 := hl
  have hr' : BitVec.ofBool (decide (species X i < Ideal.ofBits .f32 0x3F800000#32)) = 1#1 := hr
  rw [ofBits_neg_one] at hl'
  rw [Ideal.ofBits_one_f32] at hr'
  have a : -1 < species X i := by
    by_contra hn
    rw [decide_eq_false hn] at hl'
    exact absurd hl' (by decide)
  have b : species X i < 1 := by
    by_contra hn
    rw [decide_eq_false hn] at hr'
    exact absurd hr' (by decide)
  exact fptosi_small _ a b

/-- The row numbers the table is read at. -/
abbrev rowsOf (v : IVec S16384x12 32) : IVec S16384x12x1 32 :=
  broadcastInDim S16384x12x1 ![0, 1] bcast_S16384x12_S16384x12x1_0_1
    (select (cmpi .slt v (broadcastInDim S16384x12 ![] bcast_S_S16384x12 (constantI S_ 32 0#32)))
      (addi v (broadcastInDim S16384x12 ![] bcast_S_S16384x12 (constantI S_ 32 1026#32))) v)

/-- Id 0 reads row 0. -/
theorem rowsOf_zero : rowsOf (fun _ => 0#32) = fun _ => 0#32 := rfl

/-- The embedded species columns from the row numbers, before they are flattened. -/
abbrev embedded (E : FVec Ideal S1026x32 .f32) (q : IVec S16384x12x1 32) : FVec Ideal S16384x12x32 .f32 :=
  select (broadcastInDim S16384x12x32 ![0, 1] bcast_S16384x12_S16384x12x32_0_1
      (Host.reduce IntOp.andi
        (andi (cmpi .sge q (broadcastInDim S16384x12x1 ![] bcast_S_S16384x12x1 (constantI S_ 32 0#32)))
          (cmpi .sle q (broadcastInDim S16384x12x1 ![0, 1, 2] bcast_S1x1x1_S16384x12x1_0_1_2
            (broadcastInDim S1x1x1 ![2] bcast_S1_S1x1x1_2 (constantI S1 32 1025#32)))))
        (constantI S_ 1 1#1) reducesTo_S16384x12x1_S16384x12_d2 h_S_))
    (Host.gather gather_S1026x32_S16384x12x1_S16384x12x32_2_0_n_n_0_2_132 E q)
    (broadcastInDim S16384x12x32 ![] bcast_S_S16384x12x32 (constant S_ .f32 0x7FC00000#32))

/-- The table read at row 0 everywhere. -/
theorem gather_zero (E : FVec Ideal S1026x32 .f32) (r : Fin 16384) (s : Fin 12) (d : Fin 32) :
    Host.gather gather_S1026x32_S16384x12x1_S16384x12x32_2_0_n_n_0_2_132 E (fun _ => 0#32) (ix3 r s d)
      = E (ix2 (⟨0, by decide⟩ : Fin 1026) d) := by
  unfold Host.gather
  refine congrArg E (funext fun a => Fin.ext ?_)
  show GatherDims.start _ _ _ a + GatherDims.batchCoord _ _ a + GatherDims.offCoord _ _ a = _
  rw [GatherDims.batchCoord_eq_zero _ _ _ List.not_mem_nil]
  have hs : GatherDims.start gather_S1026x32_S16384x12x1_S16384x12x32_2_0_n_n_0_2_132 (ix3 r s d) (fun _ => 0#32) a = 0 := by
    unfold GatherDims.start
    split
    · exact Nat.zero_min _
    · rfl
  rw [hs]
  match a with
  | ⟨0, _⟩ =>
    exact congrArg (0 + 0 + ·) (GatherDims.offCoord_eq_zero gather_S1026x32_S16384x12x1_S16384x12x32_2_0_n_n_0_2_132 (ix3 r s d)
      (0 : Fin 2) (by decide))
  | ⟨1, _⟩ =>
    have hm : (1 : Fin 2) ∈ gather_S1026x32_S16384x12x1_S16384x12x32_2_0_n_n_0_2_132.sKept := by decide
    show 0 + 0 + GatherDims.offCoord gather_S1026x32_S16384x12x1_S16384x12x32_2_0_n_n_0_2_132 (ix3 r s d) (1 : Fin 2) = d.val
    unfold GatherDims.offCoord
    rw [dif_pos hm]
    show 0 + 0 + d.val = d.val
    omega

/-- An embedded entry, every row number being 0. -/
theorem embedded_zero (E : FVec Ideal S1026x32 .f32) (r : Fin 16384) (s : Fin 12) (d : Fin 32) :
    embedded E (fun _ => 0#32) (ix3 r s d) = E (ix2 (⟨0, by decide⟩ : Fin 1026) d) := by
  refine Eq.trans ?_ (gather_zero E r s d)
  show Scalar.select (Host.reduce _ _ _ _ _ _) _ _ = _
  rw [Host.reduce_andi_one _ _ _ _ _ rfl fun i => ?_]
  · rfl
  · show IntOp.andi (IntOp.cmpi .sge 0#32 0#32) (IntOp.cmpi .sle 0#32 1025#32) = 1#1
    decide

/-! ## The combined features -/

/-- The features without the species columns, followed by the embedded species columns. -/
abbrev combined (X : FVec Ideal S16384x1024 .f32) (e : FVec Ideal S16384x384 .f32) : FVec Ideal S16384x1396 .f32 :=
  concatenate S16384x1396 1
    [⟨S16384x1012, concatenate S16384x1012 1
        [⟨S16384x836, extractStridedSlice S16384x836 ![0, 0] X slices_S16384x1024_S16384x836_0_0⟩,
         ⟨S16384x176, extractStridedSlice S16384x176 ![0, 848] X slices_S16384x1024_S16384x176_0_848⟩]
        concatenates_S16384x836_S16384x176_S16384x1012_d1⟩,
     ⟨S16384x384, e⟩] concatenates_S16384x1012_S16384x384_S16384x1396_d1

/-- A combined entry: a feature left of the species columns, one right of them, or an embedded one. -/
theorem combined_entry (X : FVec Ideal S16384x1024 .f32) (e : FVec Ideal S16384x384 .f32) (r : Fin 16384) (k : Fin 1396) :
    combined X e (ix2 r k) = if h : k.val < 836 then X (ix2 r (⟨k.val, by omega⟩ : Fin 1024))
      else if h' : k.val < 1012 then X (ix2 r (⟨k.val + 12, by omega⟩ : Fin 1024))
      else e (ix2 r (⟨k.val - 1012, by have := k.isLt; omega⟩ : Fin 384)) := by
  have hk := k.isLt
  by_cases h' : k.val < 1012
  · refine (concatenate_pair_apply_left (t := S16384x1396) (s₁ := S16384x1012) (s₂ := S16384x384) 1 _ _ _ (ix2 r k) rfl
      (ix2 r (⟨k.val, h'⟩ : Fin 1012)) (fun b => by
        match b with
        | ⟨0, _⟩ => rfl
        | ⟨1, _⟩ => rfl)).trans ?_
    by_cases h : k.val < 836
    · rw [dif_pos h]
      refine (concatenate_pair_apply_left (t := S16384x1012) (s₁ := S16384x836) (s₂ := S16384x176) 1 _ _ _
        (ix2 r (⟨k.val, h'⟩ : Fin 1012)) rfl (ix2 r (⟨k.val, h⟩ : Fin 836)) (fun b => by
          match b with
          | ⟨0, _⟩ => rfl
          | ⟨1, _⟩ => rfl)).trans ?_
      exact extractStridedSlice_apply (s := S16384x1024) (t := S16384x836) ![0, 0] X _ _ (ix2 r (⟨k.val, by omega⟩ : Fin 1024)) (fun b => by
        match b with
        | ⟨0, _⟩ => exact (Nat.zero_add _).symm
        | ⟨1, _⟩ => exact (Nat.zero_add _).symm)
    · rw [dif_neg h, dif_pos h']
      refine (concatenate_pair_apply_right (t := S16384x1012) (s₁ := S16384x836) (s₂ := S16384x176) 1 _ _ _
        (ix2 r (⟨k.val, h'⟩ : Fin 1012)) rfl rfl (ix2 r (⟨k.val - 836, by omega⟩ : Fin 176)) (fun b hb => by
          match b with
          | ⟨0, _⟩ => rfl
          | ⟨1, _⟩ => exact absurd rfl hb) (by show k.val - 836 + 836 = k.val; omega)).trans ?_
      exact extractStridedSlice_apply (s := S16384x1024) (t := S16384x176) ![0, 848] X _ _ (ix2 r (⟨k.val + 12, by omega⟩ : Fin 1024)) (fun b => by
        match b with
        | ⟨0, _⟩ => exact (Nat.zero_add _).symm
        | ⟨1, _⟩ => show k.val + 12 = 848 + (k.val - 836); omega)
  · rw [dif_neg (by omega), dif_neg h']
    exact concatenate_pair_apply_right (t := S16384x1396) (s₁ := S16384x1012) (s₂ := S16384x384) 1 _ _ _ (ix2 r k) rfl rfl
      (ix2 r (⟨k.val - 1012, by omega⟩ : Fin 384)) (fun b hb => by
        match b with
        | ⟨0, _⟩ => rfl
        | ⟨1, _⟩ => exact absurd rfl hb) (by show k.val - 1012 + 1012 = k.val; omega)

/-- The embedded species columns, flattened, every row number being 0. -/
theorem flat_zero (E : FVec Ideal S1026x32 .f32) (r : Fin 16384) (k : Fin 384) :
    shapeCast S16384x384 (embedded E (fun _ => 0#32)) shapeCasts_S16384x12x32_S16384x384 (ix2 r k)
      = E (ix2 (⟨0, by decide⟩ : Fin 1026) (⟨k.val % 32, by omega⟩ : Fin 32)) := by
  have hk := k.isLt
  refine (shapeCast_apply _ _ (ix2 r k) (ix3 r (⟨k.val / 32, by omega⟩ : Fin 12) (⟨k.val % 32, by omega⟩ : Fin 32)) ?_).trans
    (embedded_zero E r _ _)
  rw [Shape.rowMajor_val_three, Shape.rowMajor_val_two]
  show (r.val * 12 + k.val / 32) * 32 + k.val % 32 = r.val * 384 + k.val
  omega

/-! ## The result -/

/-- A row of the combined features when every id is 0. -/
def combinedRow (X : FVec Ideal S16384x1024 .f32) (E : FVec Ideal S1026x32 .f32) (r : Fin 16384) (k : Fin 1396) : EReal :=
  if h : k.val < 836 then X (ix2 r (⟨k.val, by omega⟩ : Fin 1024))
  else if h' : k.val < 1012 then X (ix2 r (⟨k.val + 12, by omega⟩ : Fin 1024))
  else E (ix2 (⟨0, by decide⟩ : Fin 1026) (⟨(k.val - 1012) % 32, by omega⟩ : Fin 32))

/-- The result as a function of the arguments and of the integers the species columns convert to. -/
abbrev network (X : FVec Ideal S16384x1024 .f32) (E : FVec Ideal S1026x32 .f32) (W1 : FVec Ideal S1396x128 .f32) (b1 : FVec Ideal S128 .f32)
    (W2 : FVec Ideal S128x256 .f32) (b2 : FVec Ideal S256 .f32) (W3 : FVec Ideal S256x128 .f32) (b3 : FVec Ideal S128 .f32)
    (W4 : FVec Ideal S128x1 .f32) (b4 : FVec Ideal S1 .f32) (v : IVec S16384x12 32) : FVec Ideal S16384 .f32 :=
  shapeCast S16384 (addf (Host.dotGeneral dot_S16384x128_S128x1_S16384x1_1_0_0_1_n_n none
    (maximumf (addf (Host.dotGeneral dot_S16384x256_S256x128_S16384x128_1_0_0_1_n_n none
      (maximumf (addf (Host.dotGeneral dot_S16384x128_S128x256_S16384x256_1_0_0_1_n_n none
        (maximumf (addf (Host.dotGeneral dot_S16384x1396_S1396x128_S16384x128_1_0_0_1_n_n none
          (combined X (shapeCast S16384x384 (embedded E (rowsOf v)) shapeCasts_S16384x12x32_S16384x384)) W1)
          (broadcastInDim S16384x128 ![0, 1] bcast_S1x128_S16384x128_0_1 (broadcastInDim S1x128 ![1] bcast_S128_S1x128_1 b1)))
          (broadcastInDim S16384x128 ![] bcast_S_S16384x128 (constant S_ .f32 0x00000000#32))) W2)
        (broadcastInDim S16384x256 ![0, 1] bcast_S1x256_S16384x256_0_1 (broadcastInDim S1x256 ![1] bcast_S256_S1x256_1 b2)))
        (broadcastInDim S16384x256 ![] bcast_S_S16384x256 (constant S_ .f32 0x00000000#32))) W3)
      (broadcastInDim S16384x128 ![0, 1] bcast_S1x128_S16384x128_0_1 (broadcastInDim S1x128 ![1] bcast_S128_S1x128_1 b3)))
      (broadcastInDim S16384x128 ![] bcast_S_S16384x128 (constant S_ .f32 0x00000000#32))) W4)
    (broadcastInDim S16384x1 ![0, 1] bcast_S1x1_S16384x1_0_1 (broadcastInDim S1x1 ![1] bcast_S1_S1x1_1 b4)))
    shapeCasts_S16384x1_S16384

/-- Row `r` of the result when every id is 0. -/
theorem network_row (X : FVec Ideal S16384x1024 .f32) (E : FVec Ideal S1026x32 .f32) (W1 : FVec Ideal S1396x128 .f32) (b1 : FVec Ideal S128 .f32)
    (W2 : FVec Ideal S128x256 .f32) (b2 : FVec Ideal S256 .f32) (W3 : FVec Ideal S256x128 .f32) (b3 : FVec Ideal S128 .f32)
    (W4 : FVec Ideal S128x1 .f32) (b4 : FVec Ideal S1 .f32) (r : Fin 16384) :
    network X E W1 b1 W2 b2 W3 b3 W4 b4 (fun _ => 0#32) (ix1 r)
      = rest (dense (combinedRow X E r) W1 b1) W2 b2 W3 b3 W4 b4 := by
  refine (flat_column _ _ r).trans ?_
  refine host_dense _ W4 b4 _ _ r (relu _) (fun k => host_relu _ _ _ _ ?_) 0
  refine host_dense _ W3 b3 _ _ r (relu _) (fun k => host_relu _ _ _ _ ?_) k
  refine host_dense _ W2 b2 _ _ r (relu _) (fun k => host_relu _ _ _ _ ?_) k
  refine host_dense _ W1 b1 _ _ r (combinedRow X E r) (fun k => ?_) k
  refine (combined_entry X _ r k).trans ?_
  unfold combinedRow
  rw [rowsOf_zero]
  split
  · rfl
  · split
    · rfl
    · exact flat_zero E r _

/-- The generated result is that function of the arguments. -/
theorem res_network (m : (ℓ : Loc nD τ sig) → Buf (Elt Ideal) ℓ) (c : Dev nD) :
    Value.res_out0 m c = network (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))
      (fptosi 32 (species (m ((c.tc : Thread nD τ).loc main_arg0)))) := rfl

end Cert.ReferenceIdeal.Hand

end
-- ==== Proof.Equal.lean ====
/- The two first layers agree: the kernel's, spelt with the folded weights and the folded bias, and the reference's over the
   combined features, every species id being 0. So the two result arrays agree. -/
module

public import proofs.«01_k».proof.Proof.KernelIdeal.Array
public import proofs.«01_k».proof.Proof.Reference

@[expose] public section

set_option maxRecDepth 16384

noncomputable section

namespace Cert.Equal

open Cert.Layers
open Idealize.ShloMosaic hiding ix1 ix2 ix3
open Idealize.ShloMosaic.TcCoe Idealize.ShloMosaic.ValueIdx
open Idealize.SL.Sem
open scoped BigOperators

variable (m : (ℓ : Loc Cert.KernelIdeal.nD Cert.KernelIdeal.τ Cert.KernelIdeal.sig) → Buf (Elt Ideal) ℓ)

/-- The kernel's first layer at a row is the dense layer over the combined features. -/
theorem firstRow_eq (c : Dev Cert.KernelIdeal.nD) (r : Fin 16384) :
    Cert.KernelIdeal.Hand.firstRow m c r
      = dense (Cert.ReferenceIdeal.Hand.combinedRow (Cert.KernelIdeal.Hand.arg0V m c) (Cert.KernelIdeal.Hand.arg1V m c) r)
          (Cert.KernelIdeal.Hand.arg2V m c) (Cert.KernelIdeal.Hand.arg3V m c) := by
  funext j
  unfold Cert.KernelIdeal.Hand.firstRow Cert.KernelIdeal.Hand.bias dense
  rw [Cert.KernelIdeal.Hand.foldC_entry]
  refine first_layer (fun k => Cert.KernelIdeal.Hand.arg0V m c (ix2 r k))
    (fun k => Cert.KernelIdeal.Hand.arg1V m c (ix2 (⟨0, by decide⟩ : Fin 1026) (⟨k.val % 32, by omega⟩ : Fin 32)))
    (fun k => Cert.KernelIdeal.Hand.arg2V m c (ix2 k j)) (fun k => Cert.KernelIdeal.Hand.wts m c (ix2 k j))
    (Cert.ReferenceIdeal.Hand.combinedRow (Cert.KernelIdeal.Hand.arg0V m c) (Cert.KernelIdeal.Hand.arg1V m c) r)
    (Cert.KernelIdeal.Hand.arg3V m c (ix1 j)) (fun k => ?_) (fun k => rfl)
  unfold Cert.KernelIdeal.Hand.wts Cert.KernelIdeal.Hand.foldW
  show (if h : k.val < 836 then _ else if h' : k.val < 848 then Ideal.ofBits .f32 0x00000000#32 else _) = _
  rw [Ideal.ofBits_zero_f32]

/-- The kernel's result array is the reference's function of the same arguments, under the precondition. -/
theorem result_eq (c : Dev Cert.KernelIdeal.nD)
    (hp : (fptosi 32 (Cert.ReferenceIdeal.Hand.species (Cert.KernelIdeal.Hand.arg0V m c)) : IVec Cert.ReferenceIdeal.S16384x12 32) = fun _ => 0#32) :
    Cert.ReferenceIdeal.Hand.network (Cert.KernelIdeal.Hand.arg0V m c) (Cert.KernelIdeal.Hand.arg1V m c) (Cert.KernelIdeal.Hand.arg2V m c)
        (Cert.KernelIdeal.Hand.arg3V m c) (Cert.KernelIdeal.Hand.arg4V m c) (Cert.KernelIdeal.Hand.arg5V m c) (Cert.KernelIdeal.Hand.arg6V m c)
        (Cert.KernelIdeal.Hand.arg7V m c) (Cert.KernelIdeal.Hand.arg8V m c) (Cert.KernelIdeal.Hand.arg9V m c)
        (fptosi 32 (Cert.ReferenceIdeal.Hand.species (Cert.KernelIdeal.Hand.arg0V m c)))
      = Cert.KernelIdeal.Hand.result m c := by
  rw [hp]
  funext i
  obtain ⟨r, rfl⟩ : ∃ r : Fin 16384, i = ix1 r := ⟨i 0, eq_ix1 (n := 16384) i⟩
  refine (Cert.ReferenceIdeal.Hand.network_row _ _ _ _ _ _ _ _ _ _ r).trans ?_
  rw [← firstRow_eq]
  rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_species_zero
public import proofs.«01_k».proof.Proof.Kernel.Frame
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and has no semaphore that could end off zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Under the precondition the kernel and the reference end with the same result array. -/
theorem algebraic : Cert.algebraic_KernelIdeal_ReferenceIdeal_pre_species_zero := by
  intro m g m' g' hp ha
  refine ⟨Cert.KernelIdeal.Hand.result m, Cert.KernelIdeal.Hand.run m g,
    (θ_run Cert.ReferenceIdeal.defs _ _).mono (fun _ h c => ⟨(h c).1.trans ?_, (h c).2⟩) (Cert.ReferenceIdeal.Value.run (F := Ideal) m' g')⟩
  obtain ⟨a0, a1, a2, a3, a4, a5, a6, a7, a8, a9⟩ := ha c
  refine (Cert.ReferenceIdeal.Hand.res_network m' c).trans ?_
  rw [a0, a1, a2, a3, a4, a5, a6, a7, a8, a9]
  exact Cert.Equal.result_eq m c (Cert.ReferenceIdeal.Hand.ids_of_pre _ _ _ _ _ _ _ _ _ _ (hp c))

theorem claim : Cert.Claim := ⟨Cert.Kernel.Gen.facts, Cert.KernelIdeal.Gen.facts, Cert.ReferenceIdeal.Gen.facts, Cert.Pre_species_zero.Gen.facts,
  fun m g _ => Cert.Kernel.Hand.frame m g, fun m g _ => Cert.KernelIdeal.Hand.frame m g, fun m g _ => Cert.KernelIdeal.Hand.frame m g,
  frame_reference, fun m g _ => frame_reference m g (by trivial), trivial, algebraic⟩

end Cert.Proof

end
